-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S3x1x1024 : Shape := ⟨3, ![3, 1, 1024]⟩
abbrev S16 : Shape := ⟨1, ![16]⟩
abbrev S3 : Shape := ⟨1, ![3]⟩
abbrev S_ : Shape := ⟨0, ![]⟩
abbrev S1024 : Shape := ⟨1, ![1024]⟩
abbrev S1 : Shape := ⟨1, ![1]⟩
abbrev S1x1x1024 : Shape := ⟨3, ![1, 1, 1024]⟩
abbrev S128x128 : Shape := ⟨2, ![128, 128]⟩
abbrev S128x1024 : Shape := ⟨2, ![128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S3x1x1024, .f32⟩
  | .local _ .vmem, ⟨4, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v23 : BitVec 32 := Scalar.addi v2 c1_i32_16
  let c4_i32_17 : BitVec 32 := 4#32
  let v24 : BitVec 32 := Scalar.remsi v23 c4_i32_17
  let c1_i32_21 : BitVec 32 := 1#32
  let v25 : BitVec 32 := Scalar.muli v24 c1_i32_21
  let v26 : BitVec 32 := Scalar.addi c0_i32_22 v25
  v26.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v33 : BitVec 32 := Scalar.addi v2 c2_i32_25
  let c4_i32_26 : BitVec 32 := 4#32
  let v34 : BitVec 32 := Scalar.remsi v33 c4_i32_26
  let c1_i32_30 : BitVec 32 := 1#32
  let v35 : BitVec 32 := Scalar.muli v34 c1_i32_30
  let v36 : BitVec 32 := Scalar.addi c0_i32_31 v35
  v36.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  let c1_i32_39 : BitVec 32 := 1#32
  let v45 : BitVec 32 := Scalar.muli v44 c1_i32_39
  let v46 : BitVec 32 := Scalar.addi c0_i32_40 v45
  v46.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S_, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Contents.lean ====
/-
# What the buffers hold while the ring of four devices computes the running sum

Every device holds a block of 2048 rows, cut into sixteen chunks of 128 rows. Three steps make a device's
result: the running sum of its own rows, chunk by chunk, each chunk started from the last row of the chunk
before it; the totals of the devices before it, which reach it through the exchange; and the sum of the two.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Scan

open Cert.KernelIdeal Cert.KernelIdeal.Gen
open Idealize.ShloMosaic
open Idealize.ShloMosaic.TcCoe

variable {F : FTy → Type} [FloatOps F]

/-! ## The buffers and their pieces -/

/-- The staged block of the argument, the running sums, the device's own totals, the landing slots, the carried totals, the result. -/
abbrev xM : Memref sig .tc .vmem S2048x1024 .f32 := Memref.whole cc0_stg0_0
abbrev ovM : Memref sig .tc .vmem S2048x1024 .f32 := Memref.whole cc0_scratch0
abbrev sendM : Memref sig .tc .vmem S1x1024 .f32 := Memref.whole cc0_scratch1
abbrev commM : Memref sig .tc .vmem S3x1x1024 .f32 := Memref.whole cc0_scratch2
abbrev offM : Memref sig .tc .vmem S1x1024 .f32 := Memref.whole cc0_scratch3
abbrev outM : Memref sig .tc .hbm S2048x1024 .f32 := Memref.whole main_v1

/-- Chunk `r` lies inside the block. -/
theorem chunk_inb (r : Fin 16) : ∀ a, (![128 * r.val, 0] : Fin S2048x1024.rank → ℕ) a + S128x1024.size a ≤ S2048x1024.size a := by
  intro a
  have := r.isLt
  match a with
  | ⟨0, _⟩ => show 128 * r.val + 128 ≤ 2048; omega
  | ⟨1, _⟩ => show 0 + 1024 ≤ 1024; omega

/-- The rows `128 r … 128 r + 127`, every column. -/
abbrev chunk (r : Fin 16) : Rect S2048x1024 := Rect.unit (s := S2048x1024) ![128 * r.val, 0] S128x1024.size (chunk_inb r)

/-- Slot `k` lies inside the landing buffer. -/
theorem slot_inb (k : Fin 3) : ∀ a, (![k.val, 0, 0] : Fin S3x1x1024.rank → ℕ) a + S1x1x1024.size a ≤ S3x1x1024.size a := by
  intro a
  have := k.isLt
  match a with
  | ⟨0, _⟩ => show k.val + 1 ≤ 3; omega
  | ⟨1, _⟩ => show 0 + 1 ≤ 1; omega
  | ⟨2, _⟩ => show 0 + 1024 ≤ 1024; omega

/-- Slot `k` of the landing buffer as a rectangle, -/
abbrev slotRect (k : Fin 3) : Rect S3x1x1024 := Rect.unit (s := S3x1x1024) ![k.val, 0, 0] S1x1x1024.size (slot_inb k)

/-- and as the row a transfer writes. -/
abbrev slotM (k : Fin 3) : Memref sig .tc .vmem S1x1024 .f32 :=
  (commM.slice (slotRect k) (fun _ => rfl)).squeeze S1x1024 squeezes_S1x1x1024_S1x1024

/-- Chunk `r` of the running sums, and of the result. -/
abbrev ovP (r : Fin 16) : Memref sig .tc .vmem S128x1024 .f32 := ovM.slice (chunk r) (fun _ => rfl)
abbrev outP (r : Fin 16) : Memref sig .tc .hbm S128x1024 .f32 := outM.slice (chunk r) (fun _ => rfl)

/-! ## One device's running sums -/

/-- Chunk `r` of a block. -/
def xblk (X : Vec F S2048x1024 .f32) (r : Fin 16) : Vec F S128x1024 .f32 := xM.view.readAt (Elt F) (chunk r).toLoadRect X

/-- The row the chunk `n` starts from: zero for the first, then the last row of the running sums of the chunk before. -/
def carry (X : Vec F S2048x1024 .f32) : ℕ → FVec F S1x1024 .f32
  | 0 => k0_pay3 (F := F)
  | n + 1 => extractStridedSlice S1x1024 ![127, 0] (k0_pay4 (k0_pay2 (F := F)) (carry X n) (xblk X (Fin.ofNat 16 n)))
      slices_S128x1024_o127_0_S1x1024

/-- The running sums of chunk `r` within the device's own block. -/
def loc (X : Vec F S2048x1024 .f32) (r : Fin 16) : FVec F S128x1024 .f32 :=
  k0_pay5 (k0_pay2 (F := F)) (carry X r.val) (xblk X r)

/-- The column totals of a block. -/
def tot (X : Vec F S2048x1024 .f32) : FVec F S1x1024 .f32 := k0_pay1 X

/-! ## The other devices' totals -/

/-- The device `k + 1` steps before `c` on the ring, -/
def before (k : Fin 3) (c : Dev nD) : Dev nD := ⟨(c.val + (3 - k.val)) % 4, Nat.mod_lt _ (by decide)⟩
/-- and the device `k + 1` steps after. -/
def after (k : Fin 3) (c : Dev nD) : Dev nD := ⟨(c.val + (k.val + 1)) % 4, Nat.mod_lt _ (by decide)⟩

theorem before_after (k : Fin 3) (c : Dev nD) : before k (after k c) = c := by revert k c; decide
theorem after_before (k : Fin 3) (c : Dev nD) : after k (before k c) = c := by revert k c; decide

/-- A row as the one-row block a load of its slot reads. -/
def lifted (v : Vec F S1x1024 .f32) : Vec F S1x1x1024 .f32 :=
  fun j => v ((Shape.reshapeEquiv (squeezes_S1x1x1024_S1x1024).numel_eq).symm j)

/-- The totals device `c` has added up after looking at the first `n` slots: slot `k` counts when the device
    `k + 1` before `c` holds rows before `c`'s. -/
def offs (Xs : Dev nD → Vec F S2048x1024 .f32) (c : Dev nD) : ℕ → FVec F S1x1024 .f32
  | 0 => k0_pay38 (Scalar.ofBits .f32 0)
  | n + 1 => if n + 1 ≤ c.val then k0_pay39 (offs Xs c n) (lifted (tot (Xs (before (Fin.ofNat 3 n) c)))) else offs Xs c n

/-- Chunk `r` of device `c`'s result. -/
def fin (Xs : Dev nD → Vec F S2048x1024 .f32) (c : Dev nD) (r : Fin 16) : FVec F S128x1024 .f32 :=
  k0_pay42 (offs Xs c 3) (loc (Xs c) r)

/-! ## A device's result from its chunks -/

/-- The chunk a position of a block lies in, and where. -/
def chunkOf (i : S2048x1024.Idx) : Fin 16 := ⟨(i 0).val / 128, by have : (i 0).val < 2048 := (i 0).isLt; omega⟩
def within (i : S2048x1024.Idx) : S128x1024.Idx := fun a =>
  match a with
  | ⟨0, _⟩ => ⟨(i 0).val % 128, Nat.mod_lt _ (by decide)⟩
  | ⟨1, _⟩ => i 1

/-- Device `c`'s result. -/
def outAll (Xs : Dev nD → Vec F S2048x1024 .f32) (c : Dev nD) : Vec F S2048x1024 .f32 :=
  fun i => fin Xs c (chunkOf i) (within i)

theorem chunkOf_emb (r : Fin 16) (j : S128x1024.Idx) : chunkOf ((chunk r).emb j) = r := by
  have h0 : (((chunk r).emb j) 0).val = 128 * r.val + 1 * (j 0).val := rfl
  have hj : (j 0).val < 128 := (j 0).isLt
  refine Fin.ext ?_
  show (((chunk r).emb j) 0).val / 128 = r.val
  omega

theorem within_emb (r : Fin 16) (j : S128x1024.Idx) : within ((chunk r).emb j) = j := by
  have h0 : (((chunk r).emb j) 0).val = 128 * r.val + 1 * (j 0).val := rfl
  have h1 : (((chunk r).emb j) 1).val = 0 + 1 * (j 1).val := rfl
  have hj : (j 0).val < 128 := (j 0).isLt
  funext a
  match a with
  | ⟨0, _⟩ => exact Fin.ext (show (((chunk r).emb j) 0).val % 128 = (j 0).val by omega)
  | ⟨1, _⟩ => exact Fin.ext (show (((chunk r).emb j) 1).val = (j 1).val by omega)

/-- A device's result read at a position of chunk `r` is that chunk's. -/
theorem outAll_emb (Xs : Dev nD → Vec F S2048x1024 .f32) (c : Dev nD) (r : Fin 16) :
    (fun j => outAll Xs c ((chunk r).emb j)) = fin Xs c r := by
  funext j
  show fin Xs c (chunkOf ((chunk r).emb j)) (within ((chunk r).emb j)) = fin Xs c r j
  rw [chunkOf_emb, within_emb]

theorem chunks_disjoint : ∀ r r' : Fin 16, r ≠ r' → Disjoint (chunk r).set (chunk r').set := by
  intro r r' h
  rw [Finset.disjoint_left]
  intro i hi hi'
  rw [← Rect.map_emb_univ] at hi hi'
  obtain ⟨j, -, rfl⟩ := Finset.mem_map.mp hi
  obtain ⟨j', -, hj'⟩ := Finset.mem_map.mp hi'
  apply h
  rw [← chunkOf_emb r j, ← chunkOf_emb r' j', hj']

theorem emb_within (i : S2048x1024.Idx) : (chunk (chunkOf i)).emb (within i) = i := by
  have h0 : (((chunk (chunkOf i)).emb (within i)) 0).val = 128 * ((i 0).val / 128) + 1 * ((i 0).val % 128) := rfl
  have h1 : (((chunk (chunkOf i)).emb (within i)) 1).val = 0 + 1 * (i 1).val := rfl
  funext a
  match a with
  | ⟨0, _⟩ => exact Fin.ext (h0.trans (show 128 * ((i 0).val / 128) + 1 * ((i 0).val % 128) = (i 0).val by omega))
  | ⟨1, _⟩ => exact Fin.ext (h1.trans (show 0 + 1 * (i 1).val = (i 1).val by omega))

theorem chunks_cover : Finset.univ.biUnion (fun r => (chunk r).set) = Finset.univ := by
  ext i
  simp only [Finset.mem_biUnion, Finset.mem_univ, true_and, iff_true]
  refine ⟨chunkOf i, ?_⟩
  rw [← Rect.map_emb_univ]
  exact Finset.mem_map.mpr ⟨within i, Finset.mem_univ _, emb_within i⟩

/-- The kernel's device chains: each signal and transfer goes one, two and three steps on. -/
theorem dev1_eq (c : Dev nD) : (⟨k0_dev1 c, k0_dev1_lt c⟩ : Dev nD) = after 0 c := Fin.ext (k0_dev1_eq c)
theorem dev2_eq (c : Dev nD) : (⟨k0_dev2 c, k0_dev2_lt c⟩ : Dev nD) = after 1 c := Fin.ext (k0_dev2_eq c)
theorem dev3_eq (c : Dev nD) : (⟨k0_dev3 c, k0_dev3_lt c⟩ : Dev nD) = after 2 c := Fin.ext (k0_dev3_eq c)
theorem dev4_eq (c : Dev nD) : (⟨k0_dev4 c, k0_dev4_lt c⟩ : Dev nD) = after 0 c := Fin.ext (k0_dev4_eq c)
theorem dev5_eq (c : Dev nD) : (⟨k0_dev5 c, k0_dev5_lt c⟩ : Dev nD) = after 1 c := Fin.ext (k0_dev5_eq c)
theorem dev6_eq (c : Dev nD) : (⟨k0_dev6 c, k0_dev6_lt c⟩ : Dev nD) = after 2 c := Fin.ext (k0_dev6_eq c)

end Cert.KernelIdeal.Scan
-- ==== Proof.KernelIdeal.Protocol.lean ====
/-
# The exchange: who waits, who pays, how much, and what each landing hands over

A device has 23 cells: its barrier semaphore, sixteen for the copies of its result, three for the rows it sends,
three for the rows it receives. Every cell runs one round.

* The barrier cell of `c` has three duties of one unit; duty `d` is paid by the device `d + 1` before `c` and hands
  over the landing slot of that device which `c` will write.
* The receive cell `k` of `c` is paid by the device `k + 1` before `c` and hands over slot `k` holding that device's totals.
* The send cell `k` of `c` is paid by `c`'s own transfer and gives back the share of the row it read.
* The cell `r` of the result's copies is paid by `c`'s own copy and gives back both ends of it.
-/
module

public import proofs.«01_k».proof.Proof.KernelIdeal.Contents

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem

theorem s16_inb (r : Fin 16) : ∀ a, (![r.val] : Fin S16.rank → ℕ) a + S1.size a ≤ S16.size a := by
  intro a
  have := r.isLt
  match a with
  | ⟨0, _⟩ => show r.val + 1 ≤ 16; omega
theorem s3_inb (k : Fin 3) : ∀ a, (![k.val] : Fin S3.rank → ℕ) a + S1.size a ≤ S3.size a := by
  intro a
  have := k.isLt
  match a with
  | ⟨0, _⟩ => show k.val + 1 ≤ 3; omega

/-- The semaphores of the result's copies, of the rows sent, of the rows received. -/
abbrev outS (r : Fin 16) : DmaSem sig :=
  (((cc0_scratch4 : DmaSems sig S16).slice (Rect.unit (s := S16) ![r.val] S1.size (s16_inb r))).squeeze S_ squeezes_S1_S_).sem
abbrev sendS (k : Fin 3) : DmaSem sig :=
  (((cc0_scratch5 : DmaSems sig S3).slice (Rect.unit (s := S3) ![k.val] S1.size (s3_inb k))).squeeze S_ squeezes_S1_S_).sem
abbrev recvS (k : Fin 3) : DmaSem sig :=
  (((cc0_scratch6 : DmaSems sig S3).slice (Rect.unit (s := S3) ![k.val] S1.size (s3_inb k))).squeeze S_ squeezes_S1_S_).sem

/-- The cells of a device by number: its barrier, then its own semaphores. -/
abbrev jBar : Fin 23 := 0
abbrev jOut (r : Fin 16) : Fin 23 := ⟨r.val + 1, by omega⟩
abbrev jSend (k : Fin 3) : Fin 23 := ⟨k.val + 17, by omega⟩
abbrev jRecv (k : Fin 3) : Fin 23 := ⟨k.val + 20, by omega⟩

def csem (j : Fin 23) : SemLoc sig := if j = 0 then .reg barS else .dma j

theorem outS_eq (r : Fin 16) : outS r = jOut r := by revert r; decide
theorem sendS_eq (k : Fin 3) : sendS k = jSend k := by revert k; decide
theorem recvS_eq (k : Fin 3) : recvS k = jRecv k := by revert k; decide

theorem csem_bar : csem jBar = .reg barS := rfl
theorem csem_out (r : Fin 16) : csem (jOut r) = .dma (outS r) := by rw [outS_eq]; exact if_neg (fun h => by have := congrArg Fin.val h; simp at this)
theorem csem_send (k : Fin 3) : csem (jSend k) = .dma (sendS k) := by rw [sendS_eq]; exact if_neg (fun h => by have := congrArg Fin.val h; simp at this)
theorem csem_recv (k : Fin 3) : csem (jRecv k) = .dma (recvS k) := by rw [recvS_eq]; exact if_neg (fun h => by have := congrArg Fin.val h; simp at this)

abbrev barCell (c : Dev nD) : GSem nD τ sig := ((c : Thread nD τ), .reg barS)
abbrev outCell (c : Dev nD) (r : Fin 16) : GSem nD τ sig := ((c : Thread nD τ), .dma (outS r))
abbrev sendCell (c : Dev nD) (k : Fin 3) : GSem nD τ sig := ((c : Thread nD τ), .dma (sendS k))
abbrev recvCell (c : Dev nD) (k : Fin 3) : GSem nD τ sig := ((c : Thread nD τ), .dma (recvS k))
abbrev kcell (ck : Dev nD × Fin 23) : GSem nD τ sig := ((ck.1 : Thread nD τ), csem ck.2)

/-! ## The amounts -/

/-- What the landing of one row credits, and of one chunk. -/
def N1 : ℕ := (slotM 0).view.dmaCredit
def N2 : ℕ := (outP 0).view.dmaCredit
theorem N1_pos : 0 < N1 := View.dmaCredit_pos _ (by decide)
theorem N2_pos : 0 < N2 := View.dmaCredit_pos _ (by decide)
theorem amount_slot (k : Fin 3) (s : DmaSem sig) : (slotM k).view.amount (.dma s) = N1 := rfl
theorem amount_outP (r : Fin 16) (s : DmaSem sig) : (outP r).view.amount (.dma s) = N2 := rfl

/-! ## The schedule -/

variable (Xs : Dev nD → Vec F S2048x1024 .f32)

/-- The share of the totals row each of the three transfers reads. -/
def share : Fin 3 → PosShare TreeShare
  | 0 => fullShare.left
  | 1 => fullShare.right.left
  | 2 => fullShare.right.right

/-- What duty `d` of `c`'s barrier hands over: a landing slot of the device that pays it. -/
def barPay (c : Dev nD) (d : Fin 3) : sProp 𝕄 :=
  iprop(∃ v, owns ((before d c : Dev nD) : Thread nD τ) (slotM d.rev) fullShare v)
/-- Slot `k` landed: the totals of the device `k + 1` before. -/
def recvPay (c : Dev nD) (k : Fin 3) : sProp 𝕄 := owns (c : Thread nD τ) (slotM k) fullShare (tot (Xs (before k c)))
/-- The share of its own totals a transfer gives back. -/
def sendPay (c : Dev nD) (k : Fin 3) : sProp 𝕄 := owns (c : Thread nD τ) sendM (share k) (tot (Xs c))
/-- Chunk `r` copied out: the chunk and its copy. -/
def outPay (c : Dev nD) (r : Fin 16) : sProp 𝕄 :=
  iprop(owns (c : Thread nD τ) (ovP r) fullShare (fin Xs c r) ∗ owns (c : Thread nD τ) (outP r) fullShare (fin Xs c r))

instance barPay_storable (c : Dev nD) (d : Fin 3) : BI.Storable (upEmb : UEmb _ 𝕄) (barPay (F := F) c d) := by unfold barPay; infer_instance
instance recvPay_storable (c : Dev nD) (k : Fin 3) : BI.Storable (upEmb : UEmb _ 𝕄) (recvPay Xs c k) := by unfold recvPay; infer_instance
instance sendPay_storable (c : Dev nD) (k : Fin 3) : BI.Storable (upEmb : UEmb _ 𝕄) (sendPay Xs c k) := by unfold sendPay; infer_instance
instance outPay_storable (c : Dev nD) (r : Fin 16) : BI.Storable (upEmb : UEmb _ 𝕄) (outPay Xs c r) := by unfold outPay; infer_instance

/-- The duties, the amount and the payload of a semaphore of device `c`. -/
def dutiesAt : SemLoc sig → Finset (Fin 3)
  | .reg s => Finset.univ
  | .dma q => if q.val = 0 then ∅ else {0}
def amountAt : SemLoc sig → ℕ
  | .reg _ => 1
  | .dma q => if q.val < 17 then N2 else N1
def payAt (c : Dev nD) (d : Fin 3) : SemLoc sig → sProp 𝕄
  | .reg _ => barPay c d
  | .dma q => if q.val < 17 then outPay Xs c (Fin.ofNat 16 (q.val - 1))
      else if q.val < 20 then sendPay Xs c (Fin.ofNat 3 (q.val - 17)) else recvPay Xs c (Fin.ofNat 3 (q.val - 20))

instance payAt_storable (c : Dev nD) (d : Fin 3) (s : SemLoc sig) : BI.Storable (upEmb : UEmb _ 𝕄) (payAt Xs c d s) := by
  cases s with
  | reg _ => show BI.Storable _ (barPay c d); infer_instance
  | dma q => unfold payAt; (repeat' split) <;> infer_instance

def Rd : Rounds.Schedule (GSem nD τ sig) (Fin 3) 𝕄 where
  duties g r := if r = 0 ∧ g.1.2 = .tc then dutiesAt g.2 else ∅
  unitless _ := False
  amount g _ _ := amountAt g.2
  payload g _ d := payAt Xs g.1.1 d g.2
  amount_pos g _ _ _ := by
    rcases g with ⟨t, s⟩
    cases s with
    | reg _ => exact Nat.one_pos
    | dma q =>
      show 0 < if q.val < 17 then N2 else N1
      split
      · exact N2_pos
      · exact N1_pos

instance Rd_payload_storable (g : GSem nD τ sig) (r : ℕ) (d : Fin 3) : BI.Storable (upEmb : UEmb _ 𝕄) ((Rd Xs).payload g r d) :=
  payAt_storable Xs g.1.1 d g.2

section Facts
variable (c : Dev nD)

theorem duties_tc (s : SemLoc sig) : (Rd Xs).duties ((c : Thread nD τ), s) 0 = dutiesAt s := by dsimp only [Rd]; exact if_pos ⟨rfl, rfl⟩
theorem duties_bar : (Rd Xs).duties (barCell c) 0 = Finset.univ := duties_tc Xs c _
theorem dutiesAt_dma (q : DmaSem sig) : dutiesAt (.dma q) = if q.val = 0 then ∅ else {0} := rfl
theorem amountAt_dma (q : DmaSem sig) : amountAt (.dma q) = if q.val < 17 then N2 else N1 := rfl
/-- Every cell of a device's own semaphores has the one duty. -/
theorem duties_own (j : Fin 23) (hj : j.val ≠ 0) : (Rd Xs).duties ((c : Thread nD τ), .dma j) 0 = {0} :=
  (duties_tc Xs c _).trans ((dutiesAt_dma j).trans (if_neg hj))
theorem duties_out (r : Fin 16) : (Rd Xs).duties (outCell c r) 0 = {0} := by
  unfold outCell; rw [outS_eq]; exact duties_own Xs c _ (by simp)
theorem duties_send (k : Fin 3) : (Rd Xs).duties (sendCell c k) 0 = {0} := by
  unfold sendCell; rw [sendS_eq]; exact duties_own Xs c _ (by simp)
theorem duties_recv (k : Fin 3) : (Rd Xs).duties (recvCell c k) 0 = {0} := by
  unfold recvCell; rw [recvS_eq]; exact duties_own Xs c _ (by simp)
theorem duties_later (g : GSem nD τ sig) : ∀ r, 1 ≤ r → (Rd Xs).duties g r = ∅ :=
  fun r hr => by dsimp only [Rd]; exact if_neg fun h => by omega

theorem amount_bar (d : Fin 3) : (Rd Xs).amount (barCell c) 0 d = 1 := rfl
theorem amount_out (r : Fin 16) (d : Fin 3) : (Rd Xs).amount (outCell c r) 0 d = N2 := by
  show amountAt (.dma (outS r)) = N2
  rw [outS_eq, amountAt_dma, if_pos (show r.val + 1 < 17 by omega)]
theorem amount_send (k : Fin 3) (d : Fin 3) : (Rd Xs).amount (sendCell c k) 0 d = N1 := by
  show amountAt (.dma (sendS k)) = N1
  rw [sendS_eq, amountAt_dma, if_neg (show ¬ k.val + 17 < 17 by omega)]
theorem amount_recv (k : Fin 3) (d : Fin 3) : (Rd Xs).amount (recvCell c k) 0 d = N1 := by
  show amountAt (.dma (recvS k)) = N1
  rw [recvS_eq, amountAt_dma, if_neg (show ¬ k.val + 20 < 17 by omega)]

theorem payload_bar (d : Fin 3) : (Rd Xs).payload (barCell c) 0 d = barPay c d := rfl
theorem payAt_dma (q : DmaSem sig) (d : Fin 3) : payAt Xs c d (.dma q)
    = if q.val < 17 then outPay Xs c (Fin.ofNat 16 (q.val - 1))
      else if q.val < 20 then sendPay Xs c (Fin.ofNat 3 (q.val - 17)) else recvPay Xs c (Fin.ofNat 3 (q.val - 20)) := rfl
theorem payload_out (r : Fin 16) (d : Fin 3) : (Rd Xs).payload (outCell c r) 0 d = outPay Xs c r := by
  have h : Fin.ofNat 16 (r.val + 1 - 1) = r := Fin.ext (show (r.val + 1 - 1) % 16 = r.val by omega)
  show payAt Xs c d (.dma (outS r)) = _
  rw [outS_eq, payAt_dma, if_pos (show r.val + 1 < 17 by omega), h]
theorem payload_send (k : Fin 3) (d : Fin 3) : (Rd Xs).payload (sendCell c k) 0 d = sendPay Xs c k := by
  have h : Fin.ofNat 3 (k.val + 17 - 17) = k := Fin.ext (show (k.val + 17 - 17) % 3 = k.val by omega)
  show payAt Xs c d (.dma (sendS k)) = _
  rw [sendS_eq, payAt_dma, if_neg (show ¬ k.val + 17 < 17 by omega), if_pos (show k.val + 17 < 20 by omega), h]
theorem payload_recv (k : Fin 3) (d : Fin 3) : (Rd Xs).payload (recvCell c k) 0 d = recvPay Xs c k := by
  have h : Fin.ofNat 3 (k.val + 20 - 20) = k := Fin.ext (show (k.val + 20 - 20) % 3 = k.val by omega)
  show payAt Xs c d (.dma (recvS k)) = _
  rw [recvS_eq, payAt_dma, if_neg (show ¬ k.val + 20 < 17 by omega), if_neg (show ¬ k.val + 20 < 20 by omega), h]

theorem expect_bar : (Rd Xs).expect (barCell c) 0 = 3 := by
  unfold Schedule.expect Schedule.amountOf
  rw [duties_bar, Finset.sum_congr rfl fun d _ => amount_bar Xs c d, Finset.sum_const, Finset.card_univ, Fintype.card_fin, smul_eq_mul]
theorem expect_out (r : Fin 16) : (Rd Xs).expect (outCell c r) 0 = N2 := by
  unfold Schedule.expect Schedule.amountOf; rw [duties_out, Finset.sum_singleton, amount_out]
theorem expect_send (k : Fin 3) : (Rd Xs).expect (sendCell c k) 0 = N1 := by
  unfold Schedule.expect Schedule.amountOf; rw [duties_send, Finset.sum_singleton, amount_send]
theorem expect_recv (k : Fin 3) : (Rd Xs).expect (recvCell c k) 0 = N1 := by
  unfold Schedule.expect Schedule.amountOf; rw [duties_recv, Finset.sum_singleton, amount_recv]

/-- What the wait on the barrier hands over: the three slots the device will write. -/
theorem rest_bar : bigSep ((Rd Xs).duties (barCell c) 0 \ ∅) (fun d => (Rd Xs).payload (barCell c) 0 d) = bigSep Finset.univ (fun d => barPay (F := F) c d) := by
  rw [Finset.sdiff_empty, duties_bar]; rfl
theorem rest_out (r : Fin 16) : bigSep ((Rd Xs).duties (outCell c r) 0 \ ∅) (fun d => (Rd Xs).payload (outCell c r) 0 d) = outPay Xs c r := by
  rw [Finset.sdiff_empty, duties_out, bigSep_singleton, payload_out]
theorem rest_send (k : Fin 3) : bigSep ((Rd Xs).duties (sendCell c k) 0 \ ∅) (fun d => (Rd Xs).payload (sendCell c k) 0 d) = sendPay Xs c k := by
  rw [Finset.sdiff_empty, duties_send, bigSep_singleton, payload_send]
theorem rest_recv (k : Fin 3) : bigSep ((Rd Xs).duties (recvCell c k) 0 \ ∅) (fun d => (Rd Xs).payload (recvCell c k) 0 d) = recvPay Xs c k := by
  rw [Finset.sdiff_empty, duties_recv, bigSep_singleton, payload_recv]

end Facts

/-! ## What a device owes at launch; the levels -/

/-- What a device owes of one row, and of one signal. -/
abbrev owedRow (c : Dev nD) (k : Fin 3) : CellTallies nD τ sig Unit := tallyAt (recvCell (after k c) k) () N1
abbrev owedSig (c : Dev nD) (d : Fin 3) : CellTallies nD τ sig Unit := tallyAt (barCell (after d c)) () 1

/-- The three rows, the last to be sent first; then the three signals, the last first: what is paid first is the last summand. -/
def owedRows (c : Dev nD) : CellTallies nD τ sig Unit := owedRow c 2 + owedRow c 1 + owedRow c 0
def O₀ (c : Dev nD) : CellTallies nD τ sig Unit := owedRows c + owedSig c 2 + owedSig c 1 + owedSig c 0

def L (g : GSem nD τ sig) : Finset Unit := if g.1.2 = .tc then {()} else ∅
/-- The barrier cells at 1, the receive cells at 2, the others at 0. -/
def lv (g : GSem nD τ sig) (_ : Unit) : ℕ := match g.2 with
  | .reg _ => 1
  | .dma q => if q.val < 20 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (q : DmaSem sig) (u : Unit) : lv ((c : Thread nD τ), .dma q) u = if q.val < 20 then 0 else 2 := rfl
theorem lv_recv (c : Dev nD) (k : Fin 3) (u : Unit) : lv (recvCell c k) u = 2 := by
  unfold recvCell; rw [recvS_eq, lv_dma, if_neg (show ¬ k.val + 20 < 20 by omega)]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem add_pos' {A B : CellTallies nD τ sig Unit} {g : GSem nD τ sig} {u : Unit} (h : 0 < (A + B) g u) : 0 < A g u ∨ 0 < B g u := by
  rw [Pi.add_apply, Finsupp.add_apply] at h
  omega

theorem owedRows_pos {c : Dev nD} {g : GSem nD τ sig} {u : Unit} (h : 0 < owedRows c g u) : ∃ k, g = recvCell (after k c) k := by
  unfold owedRows at h
  rcases add_pos' h with h | h
  · rcases add_pos' h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ k, g = recvCell (after k c) k) ∨ ∃ d, g = barCell (after d c) := by
  unfold O₀ at h
  rcases add_pos' h with h | h
  · rcases add_pos' h with h | h
    · rcases add_pos' h with h | h
      · exact .inl (owedRows_pos h)
      · exact .inr ⟨2, tally_pos h⟩
    · exact .inr ⟨1, tally_pos h⟩
  · exact .inr ⟨0, tally_pos h⟩

/-- The staging semaphore may be waited on by a device that owes all of it, or nothing. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp, lv_dma, if_pos hq])
      (fun g u hg => by
        rcases O₀_pos hg with ⟨k, rfl⟩ | ⟨d, rfl⟩
        · rw [lv_recv]; decide
        · exact Nat.one_pos)
  · rw [MayWait_zero]; iintro -; iempintro

/-- The barrier may be waited on by a device that owes its three rows. -/
theorem mayWait_bar (c : Dev nD) : (levAts L lv : sProp 𝕄) ⊢ MayWait (c : Thread nD τ) (.reg barS) () (owedRows c) :=
  MayOwe.of_cut (L := L) (lev := lv) 1 (fun p hp => by rw [Finset.mem_singleton.mp hp, L_tc]; exact Finset.mem_singleton_self _)
    (fun g u hg => by obtain ⟨k, rfl⟩ := owedRows_pos hg; exact Finset.mem_singleton_self _)
    (fun p hp => by rw [Finset.mem_singleton.mp hp]; exact le_refl _)
    (fun g u hg => by obtain ⟨k, rfl⟩ := owedRows_pos hg; rw [lv_recv]; decide)

/-! ## The cells' records -/

/-- Every cell of every device, its round reached. -/
def records (K : Dev nD × Fin 23 → ℕ) : sProp 𝕄 :=
  bigSep Finset.univ fun ck => iprop(cellInv ER (Rd Xs) (K ck) (kcell ck) ∗ reached ER (kcell ck) 0)

instance records_persistent (K : Dev nD × Fin 23 → ℕ) : BI.Persistent (records Xs K) := by unfold records; infer_instance

theorem records_at (K : Dev nD × Fin 23 → ℕ) (c : Dev nD) (j : Fin 23) :
    records Xs K ⊢ iprop(cellInv ER (Rd Xs) (K (c, j)) (kcell (c, j)) ∗ reached ER (kcell (c, j)) 0) :=
  bigSep_elim (Finset.mem_univ (c, j))
theorem records_bar (K : Dev nD × Fin 23 → ℕ) (c : Dev nD) :
    records Xs K ⊢ iprop(cellInv ER (Rd Xs) (K (c, jBar)) (barCell c) ∗ reached ER (barCell c) 0) := records_at Xs K c jBar
theorem records_out (K : Dev nD × Fin 23 → ℕ) (c : Dev nD) (r : Fin 16) :
    records Xs K ⊢ iprop(cellInv ER (Rd Xs) (K (c, jOut r)) (outCell c r) ∗ reached ER (outCell c r) 0) := by
  have h := records_at Xs K c (jOut r); rw [kcell, csem_out] at h; exact h
theorem records_send (K : Dev nD × Fin 23 → ℕ) (c : Dev nD) (k : Fin 3) :
    records Xs K ⊢ iprop(cellInv ER (Rd Xs) (K (c, jSend k)) (sendCell c k) ∗ reached ER (sendCell c k) 0) := by
  have h := records_at Xs K c (jSend k); rw [kcell, csem_send] at h; exact h
theorem records_recv (K : Dev nD × Fin 23 → ℕ) (c : Dev nD) (k : Fin 3) :
    records Xs K ⊢ iprop(cellInv ER (Rd Xs) (K (c, jRecv k)) (recvCell c k) ∗ reached ER (recvCell c k) 0) := by
  have h := records_at Xs K c (jRecv k); rw [kcell, csem_recv] at h; exact h

end Cert.KernelIdeal.Scan
-- ==== Proof.KernelIdeal.Steps.lean ====
/-
# One step of the body at a time

What a device holds while it works through its chunks or its slots is a `pass`: the first ones are done, the others
wait. Each theorem here takes one effect of the body, at any chunk or slot, from what it needs to what it leaves.
-/
module

public import proofs.«01_k».proof.Proof.KernelIdeal.Protocol

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Passes -/

/-- The items below `m` are at `B`, the others at `A`. -/
def pass {n : ℕ} (A B : Fin n → sProp 𝕄) (m : ℕ) : sProp 𝕄 :=
  bigSep Finset.univ fun r => if r.val < m then B r else A r

/-- A pass about to do item `r`, without it. -/
def hole {n : ℕ} (A B : Fin n → sProp 𝕄) (r : Fin n) : sProp 𝕄 :=
  bigSep (Finset.univ.erase r) fun s => if s.val < r.val then B s else A s

theorem pass_take {n : ℕ} (A B : Fin n → sProp 𝕄) (r : Fin n) : pass A B r.val ⊢ iprop(A r ∗ hole A B r) := by
  unfold pass hole
  rw [bigSep_univ_split r, if_neg (Nat.lt_irrefl _)]
  exact Entails.of_eq rfl

theorem pass_put {n : ℕ} (A B : Fin n → sProp 𝕄) (r : Fin n) : iprop(B r ∗ hole A B r) ⊢ pass A B (r.val + 1) := by
  unfold pass hole
  rw [bigSep_univ_split r, if_pos (Nat.lt_succ_self _)]
  refine Entails.of_eq (congrArg (fun X => iprop(B r ∗ X)) (bigSep_congr fun s hs => ?_))
  have hne : s.val ≠ r.val := fun h => (Finset.mem_erase.mp hs).1 (Fin.ext h)
  by_cases h : s.val < r.val
  · rw [if_pos h, if_pos (by omega)]
  · rw [if_neg h, if_neg (by omega)]

theorem pass_zero {n : ℕ} (A B : Fin n → sProp 𝕄) : pass A B 0 = bigSep Finset.univ A :=
  bigSep_congr fun r _ => if_neg (Nat.not_lt_zero _)

theorem pass_full {n : ℕ} (A B : Fin n → sProp 𝕄) : pass A B n = bigSep Finset.univ B :=
  bigSep_congr fun r _ => if_pos r.isLt

/-- A finished pass is the start of the next. -/
theorem pass_next {n : ℕ} (A B : Fin n → sProp 𝕄) (C : Fin n → sProp 𝕄) : pass A B n = pass B C 0 := (pass_full A B).trans (pass_zero B C).symm

/-! ## The body's programs -/

abbrev 𝒱₀ : Variants := Variants.none

/-- The weakest precondition of a piece of device `c`'s body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on. -/
def owing (c : Dev nD) (O : CellTallies nD τ sig Unit) : sProp 𝕄 := iprop(∃ W, owes (c : Thread nD τ) O W)

/-- The end of a piece. -/
theorem done (c : Dev nD) {α : Type} {Q : α → sProp 𝕄} {a : α} : Q a ⊢ run c (.ret a) Q := by
  show Q a ⊢ iprop(|={Set.univ}[frame]=> Q a)
  iintro H
  imodintro
  iexact H

variable (K : Dev nD × Fin 23 → ℕ) (Xs : Dev nD → Vec F S2048x1024 .f32) (c : Dev nD)
variable {α : Type}

/-! ## Loads and stores -/

/-- An owned piece, opened: some contents of its buffer that read as it says. -/
theorem owns_open {sp : Space} {sh : Shape} {e : EltTy} (m : Memref sig .tc sp sh e) (q : PosShare TreeShare) (X : sh.Idx → Elt F e) :
    (owns (c : Thread nD τ) m q X : sProp 𝕄)
      ⊢ iprop(∃ f, ⌜m.view.read (Elt F) f = X⌝ ∗ (m.view.loc (c : Thread nD τ) ↦[m.view.set]{q} f)) := by
  unfold owns; exact Entails.refl _

/-- A load of chunk `r` of the staged block. -/
theorem load_x {Q : α → sProp 𝕄} (r : Fin 16) (o : ℕ) (ho : o = 128 * r.val) (X : Vec F S2048x1024 .f32) {hin} {hl}
    {k : Vec F S128x1024 .f32 → Prog (TpuEff nD τ sig (Elt F) Λ₀ .tc) α} :
    owns (c : Thread nD τ) xM fullShare X
      ⊢ iprop((owns (c : Thread nD τ) xM fullShare X -∗ run c (k (xblk X r)) Q)
          -∗ run c (.op (.load xM (Rect.unit (s := S2048x1024) ![o, 0] S128x1024.size hin).toLoadRect hl) k) Q) := by
  subst ho
  rw [owns_whole (Val := Elt F) (c : Thread nD τ) cc0_stg0_0 fullShare X]
  iintro H Hk
  iapply (wp_load 𝒱₀ (c : Thread nD τ) none Set.univ (m := xM) (Finset.subset_univ _)) $$ H
  iintro H
  iapply Hk
  iexact H

theorem load_ov {Q : α → sProp 𝕄} (r : Fin 16) (o : ℕ) (ho : o = 128 * r.val) (Y : Vec F S128x1024 .f32) {hin} {hl}
    {k : Vec F S128x1024 .f32 → Prog (TpuEff nD τ sig (Elt F) Λ₀ .tc) α} :
    owns (c : Thread nD τ) (ovP r) fullShare Y
      ⊢ iprop((owns (c : Thread nD τ) (ovP r) fullShare Y -∗ run c (k Y) Q)
          -∗ run c (.op (.load ovM (Rect.unit (s := S2048x1024) ![o, 0] S128x1024.size hin).toLoadRect hl) k) Q) := by
  subst ho
  iintro H Hk
  ihave H := (owns_open c _ _ _) $$ H
  icases H with ⟨%f, %hf, H⟩
  subst hf
  iapply (wp_load_rect 𝒱₀ (c : Thread nD τ) none Set.univ (m := ovM) (r := chunk r) (S := (ovP r).view.set) (Finset.Subset.refl _)) $$ H
  iintro H
  iapply Hk
  iapply (owns_intro (c : Thread nD τ) (ovP r) fullShare f)
  iexact H

theorem store_ov {Q : α → sProp 𝕄} (r : Fin 16) (o : ℕ) (ho : o = 128 * r.val) (Y w : Vec F S128x1024 .f32) {hin} {hx} {hm}
    {k : PUnit → Prog (TpuEff nD τ sig (Elt F) Λ₀ .tc) α} :
    owns (c : Thread nD τ) (ovP r) fullShare Y
      ⊢ iprop((owns (c : Thread nD τ) (ovP r) fullShare w -∗ run c (k ⟨⟩) Q)
          -∗ run c (.op (.store ovM (Rect.unit (s := S2048x1024) ![o, 0] S128x1024.size hin) w Finset.univ hx hm) k) Q) := by
  subst ho
  iintro H Hk
  ihave H := (owns_open c _ _ _) $$ H
  icases H with ⟨%f, %hf, H⟩
  iapply (wp_store 𝒱₀ (c : Thread nD τ) none Set.univ (m := ovM) (r := chunk r) (Mk := Finset.univ) (S := (ovP r).view.set) (Finset.Subset.refl _)) $$ H
  iintro H
  iapply Hk
  have h := owns_intro (Ix := Unit) (Name := ℕ) (U := UU) (Lvl := ℕ) (c : Thread nD τ) (ovP r) fullShare ((ovM.access (chunk r)).write (Elt F) f w Finset.univ)
  rw [View.read_write_univ] at h
  iapply h
  iexact H

/-! ## The chunks -/

/-- Chunk `r` of the running sums, at any contents; at the device's own running sums. -/
def Fresh (c : Dev nD) (r : Fin 16) : sProp 𝕄 := iprop(∃ v, owns (c : Thread nD τ) (ovP r) fullShare v)
def Summed (r : Fin 16) : sProp 𝕄 := owns (c : Thread nD τ) (ovP r) fullShare (loc (Xs c) r)
/-- Chunk `r` of the result at any contents, with what the copy of it needs. -/
def Target (c : Dev nD) (r : Fin 16) : sProp 𝕄 :=
  iprop((∃ v, owns (c : Thread nD τ) (outP r) fullShare v) ∗ dutyTok ER (outCell c r) 0 0 ∗ atPos ER (outCell c r) 0 ∅ 0)
def Ready (r : Fin 16) : sProp 𝕄 := iprop(Summed Xs c r ∗ Target c r)
/-- The copy of chunk `r` under way, and landed. -/
def Flying (c : Dev nD) (r : Fin 16) : sProp 𝕄 := iprop(cred (tallyAt (outCell c r) () N2) ∗ atPos ER (outCell c r) 0 ∅ 0)
def Landed (r : Fin 16) : sProp 𝕄 := iprop(outPay Xs c r ∗ atPos ER (outCell c r) (0 + 1) ∅ 0)

/-- The running sums of chunk `r`: its rows loaded, its running sums stored. -/
theorem sum_chunk {Q : α → sProp 𝕄} (r : Fin 16) {m o : ℕ} (hm : m = r.val) (ho : o = 128 * r.val) {w : Vec F S128x1024 .f32 → Vec F S128x1024 .f32}
    (hw : w (xblk (Xs c) r) = loc (Xs c) r) {hin hin' hin''} {hl} {hl'} {hx} {hmk}
    {k : Vec F S128x1024 .f32 → PUnit → Prog (TpuEff nD τ sig (Elt F) Λ₀ .tc) α} :
    iprop(owns (c : Thread nD τ) xM fullShare (Xs c) ∗ pass (Fresh c) (Summed Xs c) m)
      ⊢ iprop(((owns (c : Thread nD τ) xM fullShare (Xs c) ∗ pass (Fresh c) (Summed Xs c) (m + 1)) -∗ run c (k (xblk (Xs c) r) ⟨⟩) Q)
          -∗ run c (.op (.load xM (Rect.unit (s := S2048x1024) ![o, 0] S128x1024.size hin).toLoadRect hl) fun v =>
              .op (.load ovM (Rect.unit (s := S2048x1024) ![o, 0] S128x1024.size hin').toLoadRect hl') fun _ =>
              .op (.store ovM (Rect.unit (s := S2048x1024) ![o, 0] S128x1024.size hin'') (w v) Finset.univ hx hmk) (k v)) Q) := by
  subst hm
  iintro ⟨Hx, Hp⟩ Hk
  ihave Hp := (pass_take (Fresh c) (Summed Xs c) r) $$ Hp
  unfold Fresh
  icases Hp with ⟨⟨%v, Hov⟩, Hh⟩
  iapply (load_x c r o ho (Xs c)) $$ Hx
  iintro Hx
  iapply (load_ov c r o ho v) $$ Hov
  iintro Hov
  iapply (store_ov c r o ho v (w (xblk (Xs c) r))) $$ Hov
  iintro Hov
  iapply Hk
  isplitl [Hx]; · iexact Hx
  iapply (pass_put (fun r => iprop(∃ v, owns (c : Thread nD τ) (ovP r) fullShare v)) (Summed Xs c) r)
  isplitl [Hov]
  · unfold Summed; rw [hw]; iexact Hov
  · iexact Hh

/-- The copy of chunk `r` of the result starts. -/
theorem copy_chunk {Q : α → sProp 𝕄} (r : Fin 16) (o o' : ℕ) (ho : o = 128 * r.val) (ho' : o' = r.val) {hin hin' hin''} {hsq} {hs hs'} {hsrc} {hdst} {hsem}
    {k : PUnit → Prog (TpuEff nD τ sig (Elt F) Λ₀ .tc) α} :
    iprop(records Xs K ∗ owns (c : Thread nD τ) (ovP r) fullShare (fin Xs c r) ∗ Target c r)
      ⊢ iprop((Flying c r -∗ run c (k ⟨⟩) Q)
          -∗ run c (.op (.enqueueDma (ovM.slice (Rect.unit (s := S2048x1024) ![o, 0] S128x1024.size hin) hs)
              (.here (outM.slice (Rect.unit (s := S2048x1024) ![o, 0] S128x1024.size hin') hs'))
              (.dma (((cc0_scratch4 : DmaSems sig S16).slice (Rect.unit (s := S16) ![o'] S1.size hin'')).squeeze S_ hsq).sem) hsrc hdst hsem) k) Q) := by
  subst ho
  subst ho'
  unfold Target Flying
  iintro ⟨#Hrec, Hov, ⟨%v, Hout⟩, Htok, Hat⟩ Hk
  ihave Hov := (owns_open c _ _ _) $$ Hov
  icases Hov with ⟨%f, %hf, Hov⟩
  ihave Hout := (owns_open c _ _ _) $$ Hout
  icases Hout with ⟨%g, %hg, Hout⟩
  ihave Hr := (records_out Xs K c r) $$ Hrec
  icases Hr with ⟨#Hi, #Hre⟩
  have hpay : iprop(((outP r).view.loc (c : Thread nD τ) ↦[(outP r).view.set]{fullShare} ((outP r).view.write (Elt F) g ((ovP r).view.read (Elt F) f) Finset.univ))
      ∗ ((ovP r).view.loc (c : Thread nD τ) ↦[(ovP r).view.set]{fullShare} f)) ⊢ (Rd Xs).payload (outCell c r) 0 0 := by
    rw [payload_out]
    unfold outPay
    have h1 := owns_intro (Ix := Unit) (Name := ℕ) (U := UU) (Lvl := ℕ) (c : Thread nD τ) (ovP r) fullShare f
    have h2 := owns_intro (Ix := Unit) (Name := ℕ) (U := UU) (Lvl := ℕ) (c : Thread nD τ) (outP r) fullShare
      ((outP r).view.write (Elt F) g ((ovP r).view.read (Elt F) f) Finset.univ)
    rw [View.read_write_univ] at h2
    rw [hf] at h1 h2
    rw [hf]
    iintro ⟨Ha, Hb⟩
    isplitl [Hb]
    · iapply h1; iexact Hb
    · iapply h2; iexact Ha
  iapply (Rounds.wp_copy_pointsTo 𝒱₀ ER (Rd Xs) (c : Thread nD τ) none (src := ovP r) (dst := outP r) (sem := .dma (outS r)) (κ := K (c, jOut r)) (r := 0) (d := 0)
      (by rw [duties_out]; exact Finset.mem_singleton_self _) () N2 (amount_outP r (outS r)) (amount_out Xs c r 0) hpay) $$ [Hov Hout Htok]
  · isplitr; · iexact Hi
    isplitl [Hov]; · iexact Hov
    isplitl [Hout]; · iexact Hout
    isplitl [Htok]; · iexact Htok
    iexact Hre
  iintro Hc
  iapply Hk
  isplitl [Hc] <;> iassumption

/-- Chunk `r` of the result in the running sums' buffer, not yet copied, beside the other chunks. -/
def Filled (r : Fin 16) : sProp 𝕄 :=
  iprop(owns (c : Thread nD τ) (ovP r) fullShare (fin Xs c r) ∗ Target c r ∗ hole (Ready Xs c) (Flying c) r)

/-- Chunk `r` of the result stored: the totals before added to the running sums. -/
theorem fill_chunk {Q : α → sProp 𝕄} (r : Fin 16) {m o : ℕ} (hm : m = r.val) (ho : o = 128 * r.val) {w : Vec F S128x1024 .f32 → Vec F S128x1024 .f32}
    (hw : w (loc (Xs c) r) = fin Xs c r) {hin₁ hin₂ hin₃} {hl} {hl'} {hx} {hmk} {k : PUnit → Prog (TpuEff nD τ sig (Elt F) Λ₀ .tc) α} :
    iprop(records Xs K ∗ pass (Ready Xs c) (Flying c) m)
      ⊢ iprop(((records Xs K ∗ Filled Xs c r) -∗ run c (k ⟨⟩) Q)
          -∗ run c (.op (.load ovM (Rect.unit (s := S2048x1024) ![o, 0] S128x1024.size hin₁).toLoadRect hl) fun v =>
              .op (.load ovM (Rect.unit (s := S2048x1024) ![o, 0] S128x1024.size hin₂).toLoadRect hl') fun _ =>
              .op (.store ovM (Rect.unit (s := S2048x1024) ![o, 0] S128x1024.size hin₃) (w v) Finset.univ hx hmk) k) Q) := by
  subst hm
  iintro ⟨#Hrec, Hp⟩ Hk
  ihave Hp := (pass_take (Ready Xs c) (Flying c) r) $$ Hp
  icases Hp with ⟨Hr, Hh⟩
  unfold Ready Summed
  icases Hr with ⟨Hov, Ht⟩
  iapply (load_ov c r o ho (loc (Xs c) r)) $$ Hov
  iintro Hov
  iapply (load_ov c r o ho (loc (Xs c) r)) $$ Hov
  iintro Hov
  iapply (store_ov c r o ho (loc (Xs c) r) (w (loc (Xs c) r))) $$ Hov
  iintro Hov
  rw [hw]
  iapply Hk
  isplitr; · iexact Hrec
  unfold Filled Ready Summed
  isplitl [Hov]; · iexact Hov
  isplitl [Ht] <;> iassumption

/-- The copy of a stored chunk of the result starts. -/
theorem fly_chunk {Q : α → sProp 𝕄} (r : Fin 16) {m o o' : ℕ} (hm : m = r.val + 1) (ho : o = 128 * r.val) (ho' : o' = r.val) {hin hin' hin''} {hsq} {hs hs'} {hsrc} {hdst} {hsem}
    {k : PUnit → Prog (TpuEff nD τ sig (Elt F) Λ₀ .tc) α} :
    iprop(records Xs K ∗ Filled Xs c r)
      ⊢ iprop(((records Xs K ∗ pass (Ready Xs c) (Flying c) m) -∗ run c (k ⟨⟩) Q)
          -∗ run c (.op (.enqueueDma (ovM.slice (Rect.unit (s := S2048x1024) ![o, 0] S128x1024.size hin) hs)
                (.here (outM.slice (Rect.unit (s := S2048x1024) ![o, 0] S128x1024.size hin') hs'))
                (.dma (((cc0_scratch4 : DmaSems sig S16).slice (Rect.unit (s := S16) ![o'] S1.size hin'')).squeeze S_ hsq).sem) hsrc hdst hsem) k) Q) := by
  subst hm
  unfold Filled
  iintro ⟨#Hrec, Hov, Ht, Hh⟩ Hk
  iapply (copy_chunk K Xs c r o o' ho ho') $$ [Hov Ht]
  · isplitr; · iexact Hrec
    isplitl [Hov] <;> iassumption
  iintro Hf
  iapply Hk
  isplitr; · iexact Hrec
  iapply (pass_put (Ready Xs c) (Flying c) r)
  isplitl [Hf] <;> iassumption

/-- The wait for the copy of chunk `r`. -/
theorem wait_chunk {Q : α → sProp 𝕄} (r : Fin 16) {m o' : ℕ} {o : ℕ} (hm : m = r.val) (ho : o = 128 * r.val) (ho' : o' = r.val) {hin hin' hin''} {hsq} {hs hs'} {hsrc} {hdst}
    {k : PUnit → Prog (TpuEff nD τ sig (Elt F) Λ₀ .tc) α} :
    iprop(records Xs K ∗ owing c 0 ∗ pass (Flying c) (Landed Xs c) m)
      ⊢ iprop(((records Xs K ∗ owing c 0 ∗ pass (Flying c) (Landed Xs c) (m + 1)) -∗ run c (k ⟨⟩) Q)
          -∗ run c (.op (.waitDma2 (((cc0_scratch4 : DmaSems sig S16).slice (Rect.unit (s := S16) ![o'] S1.size hin)).squeeze S_ hsq).sem
              (ovM.slice (Rect.unit (s := S2048x1024) ![o, 0] S128x1024.size hin') hs) (outM.slice (Rect.unit (s := S2048x1024) ![o, 0] S128x1024.size hin'') hs') hsrc hdst) k) Q) := by
  subst hm
  subst ho
  subst ho'
  iintro ⟨#Hrec, Ho, Hp⟩ Hk
  ihave Hp := (pass_take (Flying c) (Landed Xs c) r) $$ Hp
  icases Hp with ⟨Hr, Hh⟩
  unfold owing
  icases Ho with ⟨%W, Ho⟩
  ihave Hr' := (records_out Xs K c r) $$ Hrec
  icases Hr' with ⟨#Hi, #Hre⟩
  unfold Flying
  icases Hr with ⟨Hc, Hat⟩
  iapply (Rounds.wp_wait_rest_token 𝒱₀ ER (Rd Xs) (c : Thread nD τ) none (sm := .dma (outS r)) (k' := (outP r).view.dmaCredit) (κ := K (c, jOut r))
      (wpE_waitDma2_eq 𝒱₀ (c : Thread nD τ) none Set.univ) (Set.mem_univ _) () (O := 0) (W := W) (R := 0) (m := 0) (T := ∅)
      (by rw [Nat.zero_add, expect_out]; rfl)) $$ [Hc Ho Hat]
  · isplitr; · iexact Hi
    isplitl [Hc]; · iexact Hc
    isplitl [Ho]; · iexact Ho
    isplitr; · rw [MayWait_zero]; iempintro
    iexact Hat
  iintro ⟨Ho, Hat, -, Hpay⟩
  ihave Hpay := (Entails.of_eq (rest_out Xs c r)) $$ Hpay
  iapply Hk
  isplitr; · iexact Hrec
  isplitl [Ho]
  · iexists (insert (SemLoc.dma (outS r), ()) W); iexact Ho
  iapply (pass_put (fun r => iprop(cred (tallyAt (outCell c r) () N2) ∗ atPos ER (outCell c r) 0 ∅ 0)) (Landed Xs c) r)
  isplitr [Hh]
  · unfold Landed
    isplitl [Hpay] <;> iassumption
  · iexact Hh

end Cert.KernelIdeal.Scan
-- ==== Proof.KernelIdeal.Exchange.lean ====
/-
# The exchange of the totals, one step at a time

The signals that offer the landing slots, the wait for the three slots offered, the three transfers, the waits for
the rows that arrive and for the rows that left — each at any slot.
-/
module

public import proofs.«01_k».proof.Proof.KernelIdeal.Steps

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Fin 23 → ℕ) (Xs : Dev nD → Vec F S2048x1024 .f32) (c : Dev nD)
variable {α : Type}

/-! ## The slots offered -/

/-- A landing slot of the device's own, with what the signal that offers it needs. -/
def Offering (c : Dev nD) (d : Fin 3) : sProp 𝕄 :=
  iprop(dutyTok ER (barCell (after d c)) 0 d ∗ ∃ v, owns (c : Thread nD τ) (slotM d.rev) fullShare v)

/-- A signal, to the device `d + 1` on: a landing slot goes with it. -/
theorem signal_step {Q : α → sProp 𝕄} (d : Fin 3) {m : ℕ} (hm : m = d.val) (n : Dev nD) (hn : n = after d c) (O : CellTallies nD τ sig Unit)
    {O' : CellTallies nD τ sig Unit} (hO : O' = O + owedSig c d) {k' : ℕ} (hk : k' = 1)
    {k : PUnit → Prog (TpuEff nD τ sig (Elt F) Λ₀ .tc) α} :
    iprop(records Xs K ∗ owing c O' ∗ pass (Offering c) (fun _ => iprop(emp)) m)
      ⊢ iprop(((records Xs K ∗ owing c O ∗ pass (Offering c) (fun _ => iprop(emp)) (m + 1)) -∗ run c (k ⟨⟩) Q) -∗ run c (.op (.semSignal (n : Thread nD τ) barS k') k) Q) := by
  subst hn
  subst hk
  subst hm
  unfold owing
  iintro ⟨#Hrec, ⟨%W, Ho⟩, Hp⟩ Hk
  ihave Hp := (pass_take (Offering c) (fun _ => iprop(emp)) d) $$ Hp
  icases Hp with ⟨Hr, Hh⟩
  unfold Offering
  icases Hr with ⟨Htok, Hslot⟩
  ihave Hr := (records_bar Xs K (after d c)) $$ Hrec
  icases Hr with ⟨#Hi, #Hre⟩
  iapply (Rounds.wp_signal 𝒱₀ ER (Rd Xs) (c : Thread nD τ) none (dst := (after d c : Thread nD τ)) (sem := barS) (κ := K (after d c, jBar)) (r := 0)
      (d := d) (by rw [duties_bar]; exact Finset.mem_univ _) (amount_bar Xs (after d c) d) () O hO) $$ [Ho Htok Hslot]
  · isplitr; · iexact Hi
    isplitl [Ho]; · iexact Ho
    isplitl [Htok]; · iexact Htok
    isplitl [Hslot]
    · rw [payload_bar]; unfold barPay; rw [before_after]; iexact Hslot
    · iexact Hre
  iintro Ho
  iapply Hk
  isplitr; · iexact Hrec
  isplitl [Ho]
  · iexists W
    iexact Ho
  iapply (pass_put (fun d => iprop(dutyTok ER (barCell (after d c)) 0 d ∗ ∃ v, owns (c : Thread nD τ) (slotM d.rev) fullShare v)) (fun _ => iprop(emp)) d)
  isplitr
  · iempintro
  · iexact Hh

theorem before_rev (d : Fin 3) (c : Dev nD) : before (Fin.rev d) c = after d c := by revert d c; decide

/-- A slot of the device `k + 1` on, at any contents. -/
def Offered (c : Dev nD) (k : Fin 3) : sProp 𝕄 := iprop(∃ v, owns ((after k c : Dev nD) : Thread nD τ) (slotM k) fullShare v)

/-- The three payloads of the barrier are the three slots the device will write. -/
theorem offered_eq : bigSep Finset.univ (fun d => barPay (F := F) c d) = bigSep Finset.univ (Offered c) := by
  rw [bigSep_univ_equiv (Fin.revPerm (n := 3))]
  refine bigSep_congr fun k _ => ?_
  show barPay c (Fin.rev k) = Offered c k
  unfold barPay Offered
  rw [before_rev, Fin.rev_rev]

/-- The wait for the three slots. -/
theorem wait_slots {Q : α → sProp 𝕄} {k' : ℕ} (hk : k' = 3) {k : PUnit → Prog (TpuEff nD τ sig (Elt F) Λ₀ .tc) α} :
    iprop(records Xs K ∗ levAts L lv ∗ owing c (owedRows c) ∗ cred (tallyAt (barCell c) () 3) ∗ atPos ER (barCell c) 0 ∅ 0)
      ⊢ iprop(((owing c (owedRows c) ∗ atPos ER (barCell c) (0 + 1) ∅ 0 ∗ bigSep Finset.univ (Offered c)) -∗ run c (k ⟨⟩) Q)
          -∗ run c (.op (.semWait barS k') k) Q) := by
  subst hk
  unfold owing
  iintro ⟨#Hrec, #Hlev, ⟨%W, Ho⟩, Hc, Hat⟩ Hk
  ihave Hr := (records_bar Xs K c) $$ Hrec
  icases Hr with ⟨#Hi, #Hre⟩
  iapply (Rounds.wp_wait_rest_token 𝒱₀ ER (Rd Xs) (c : Thread nD τ) none (κ := K (c, jBar))
      (wpE_semWait_eq 𝒱₀ (c : Thread nD τ) none Set.univ) (Set.mem_univ _) () (O := owedRows c) (W := W) (R := 0) (m := 0) (T := ∅)
      (by rw [expect_bar])) $$ [Hc Ho Hat]
  · isplitr; · iexact Hi
    isplitl [Hc]; · iexact Hc
    isplitl [Ho]; · iexact Ho
    isplitr; · iapply (mayWait_bar c); iexact Hlev
    iexact Hat
  iintro ⟨Ho, Hat, -, Hpay⟩
  ihave Hpay := (Entails.of_eq ((rest_bar Xs c).trans (offered_eq c))) $$ Hpay
  iapply Hk
  isplitl [Ho]; · iexists _; iexact Ho
  isplitl [Hat] <;> iassumption

/-! ## The transfers -/

/-- What the transfer to the device `k + 1` on needs. -/
def Sendable (k : Fin 3) : sProp 𝕄 :=
  iprop(owns (c : Thread nD τ) sendM (share k) (tot (Xs c)) ∗ Offered c k ∗ dutyTok ER (sendCell c k) 0 0
    ∗ dutyTok ER (recvCell (after k c) k) 0 0 ∗ atPos ER (sendCell c k) 0 ∅ 0)
/-- The transfer under way, and done. -/
def Sending (c : Dev nD) (k : Fin 3) : sProp 𝕄 := iprop(cred (tallyAt (sendCell c k) () N1) ∗ atPos ER (sendCell c k) 0 ∅ 0)
def Sent (k : Fin 3) : sProp 𝕄 := iprop(sendPay Xs c k ∗ atPos ER (sendCell c k) (0 + 1) ∅ 0)

/-- The transfer to the device `k + 1` on. -/
theorem send_step {Q : α → sProp 𝕄} (i : Fin 3) {m : ℕ} (hm : m = i.val) (n : Dev nD) (hn : n = after i c) {o : ℕ} (ho : o = i.val) (O : CellTallies nD τ sig Unit)
    {O' : CellTallies nD τ sig Unit} (hO : O' = O + owedRow c i) {hin hin₁ hin₂} {hsq hsq₁ hsq₂} {hs} {hsc} {hsrc} {hdst} {hsem}
    {k : PUnit → Prog (TpuEff nD τ sig (Elt F) Λ₀ .tc) α} :
    iprop(records Xs K ∗ owing c O' ∗ pass (Sendable Xs c) (Sending c) m)
      ⊢ iprop(((records Xs K ∗ owing c O ∗ pass (Sendable Xs c) (Sending c) (m + 1)) -∗ run c (k ⟨⟩) Q)
          -∗ run c (.op (.enqueueDma sendM (.remote (Dev.tc n : Thread nD τ)
              ((commM.slice (Rect.unit (s := S3x1x1024) ![o, 0, 0] S1x1x1024.size hin) hs).squeeze S1x1024 hsq)
              (.dma (((cc0_scratch5 : DmaSems sig S3).slice (Rect.unit (s := S3) ![o] S1.size hin₁)).squeeze S_ hsq₁).sem) hsc)
              (.dma (((cc0_scratch6 : DmaSems sig S3).slice (Rect.unit (s := S3) ![o] S1.size hin₂)).squeeze S_ hsq₂).sem) hsrc hdst hsem) k) Q) := by
  subst hn
  subst ho
  subst hm
  iintro ⟨#Hrec, Ho, Hp⟩ Hk
  ihave Hp := (pass_take (Sendable Xs c) (Sending c) i) $$ Hp
  icases Hp with ⟨Hr, Hh⟩
  unfold owing
  icases Ho with ⟨%W, Ho⟩
  unfold Sendable Offered
  icases Hr with ⟨Hs, ⟨%v, Hd⟩, Hts, Htr, Hat⟩
  ihave Hs := (owns_open c _ _ _) $$ Hs
  icases Hs with ⟨%f, %hf, Hs⟩
  ihave Hd := (owns_open (after i c) _ _ _) $$ Hd
  icases Hd with ⟨%g, %hg, Hd⟩
  ihave Hr := (records_send Xs K c i) $$ Hrec
  icases Hr with ⟨#Hi, #Hre⟩
  ihave Hr := (records_recv Xs K (after i c) i) $$ Hrec
  icases Hr with ⟨#Hi', #Hre'⟩
  have h1 : ((sendM.view.loc (c : Thread nD τ) ↦[sendM.view.set]{share i} f) : sProp 𝕄) ⊢ (Rd Xs).payload (sendCell c i) 0 0 := by
    rw [payload_send]
    have h := owns_intro (Ix := Unit) (Name := ℕ) (U := UU) (Lvl := ℕ) (c : Thread nD τ) sendM (share i) f
    rw [hf] at h
    exact h
  have h2 : (((slotM i).view.loc ((after i c : Dev nD) : Thread nD τ) ↦[(slotM i).view.set]{fullShare}
      ((slotM i).view.write (Elt F) g (sendM.view.read (Elt F) f) Finset.univ)) : sProp 𝕄) ⊢ (Rd Xs).payload (recvCell (after i c) i) 0 0 := by
    rw [payload_recv]
    unfold recvPay
    have h := owns_intro (Ix := Unit) (Name := ℕ) (U := UU) (Lvl := ℕ) ((after i c : Dev nD) : Thread nD τ) (slotM i) fullShare
      ((slotM i).view.write (Elt F) g (sendM.view.read (Elt F) f) Finset.univ)
    rw [View.read_write_univ, hf] at h
    rw [before_after, hf]
    exact h
  iapply (Rounds.wp_send_pointsTo 𝒱₀ ER (Rd Xs) (c : Thread nD τ) none (c' := ((after i c : Dev nD) : Thread nD τ)) (src := sendM) (dst := slotM i)
      (sS := .dma (sendS i)) (sem := .dma (recvS i)) (κ₁ := K (c, jSend i)) (κ₂ := K (after i c, jRecv i))
      (r₁ := 0) (r₂ := 0) (d₁ := 0) (d₂ := 0) (fs := f) (fd := g) (q := share i)
      (by rw [duties_send]; exact Finset.mem_singleton_self _) (by rw [duties_recv]; exact Finset.mem_singleton_self _)
      () () N1 (amount_slot i (recvS i)) (amount_send Xs c i 0) (amount_recv Xs (after i c) i 0) O hO (W := W) h1 h2) $$ [Hs Hd Ho Hts Htr]
  · isplitr; · iexact Hi
    isplitr; · iexact Hi'
    isplitl [Hs]; · iexact Hs
    isplitl [Hd]; · iexact Hd
    isplitl [Ho]; · iexact Ho
    isplitl [Hts]; · iexact Hts
    isplitr; · iexact Hre
    isplitl [Htr]; · iexact Htr
    iexact Hre'
  iintro ⟨Hc, Ho⟩
  iapply Hk
  isplitr; · iexact Hrec
  isplitl [Ho]; · iexists W; iexact Ho
  iapply (pass_put (fun k => iprop(owns (c : Thread nD τ) sendM (share k) (tot (Xs c)) ∗ (∃ v, owns ((after k c : Dev nD) : Thread nD τ) (slotM k) fullShare v)
    ∗ dutyTok ER (sendCell c k) 0 0 ∗ dutyTok ER (recvCell (after k c) k) 0 0 ∗ atPos ER (sendCell c k) 0 ∅ 0)) (Sending c) i)
  isplitr [Hh]
  · unfold Sending
    isplitl [Hc] <;> iassumption
  · iexact Hh

/-- The wait for a row that left. -/
theorem wait_sent {Q : α → sProp 𝕄} (i : Fin 3) {m o : ℕ} (hm : m = i.val) (ho : o = i.val) {hin} {hsq} {hinm} {hsm} {hsqm} {hsrc} {hdst}
    {k : PUnit → Prog (TpuEff nD τ sig (Elt F) Λ₀ .tc) α} :
    iprop(records Xs K ∗ owing c 0 ∗ pass (Sending c) (Sent Xs c) m)
      ⊢ iprop(((records Xs K ∗ owing c 0 ∗ pass (Sending c) (Sent Xs c) (m + 1)) -∗ run c (k ⟨⟩) Q)
          -∗ run c (.op (.waitDma2 (((cc0_scratch5 : DmaSems sig S3).slice (Rect.unit (s := S3) ![o] S1.size hin)).squeeze S_ hsq).sem
              ((commM.slice (Rect.unit (s := S3x1x1024) ![o, 0, 0] S1x1x1024.size hinm) hsm).squeeze S1x1024 hsqm) sendM hsrc hdst) k) Q) := by
  subst ho
  subst hm
  iintro ⟨#Hrec, Ho, Hp⟩ Hk
  ihave Hp := (pass_take (Sending c) (Sent Xs c) i) $$ Hp
  icases Hp with ⟨Hr, Hh⟩
  unfold owing
  icases Ho with ⟨%W, Ho⟩
  ihave Hr' := (records_send Xs K c i) $$ Hrec
  icases Hr' with ⟨#Hi, #Hre⟩
  unfold Sending
  icases Hr with ⟨Hc, Hat⟩
  iapply (Rounds.wp_wait_rest_token 𝒱₀ ER (Rd Xs) (c : Thread nD τ) none (sm := .dma (sendS i)) (k' := (sendM : Memref sig .tc .vmem S1x1024 .f32).view.dmaCredit) (κ := K (c, jSend i))
      (wpE_waitDma2_eq 𝒱₀ (c : Thread nD τ) none Set.univ) (Set.mem_univ _) () (O := 0) (W := W) (R := 0) (m := 0) (T := ∅)
      (by rw [Nat.zero_add, expect_send]; rfl)) $$ [Hc Ho Hat]
  · isplitr; · iexact Hi
    isplitl [Hc]; · iexact Hc
    isplitl [Ho]; · iexact Ho
    isplitr; · rw [MayWait_zero]; iempintro
    iexact Hat
  iintro ⟨Ho, Hat, -, Hpay⟩
  ihave Hpay := (Entails.of_eq (rest_send Xs c i)) $$ Hpay
  iapply Hk
  isplitr; · iexact Hrec
  isplitl [Ho]
  · iexists (insert (SemLoc.dma (sendS i), ()) W); iexact Ho
  iapply (pass_put (fun k => iprop(cred (tallyAt (sendCell c k) () N1) ∗ atPos ER (sendCell c k) 0 ∅ 0)) (Sent Xs c) i)
  isplitr [Hh]
  · unfold Sent
    isplitl [Hpay] <;> iassumption
  · iexact Hh

/-! ## The rows received -/

/-- A row still awaited, and a row that has arrived. -/
def Awaited (c : Dev nD) (k : Fin 3) : sProp 𝕄 := iprop(cred (tallyAt (recvCell c k) () N1) ∗ atPos ER (recvCell c k) 0 ∅ 0)
def Arrived (k : Fin 3) : sProp 𝕄 := iprop(recvPay Xs c k ∗ atPos ER (recvCell c k) (0 + 1) ∅ 0)
/-- After the additions only the rows of the devices before have been waited for. -/
def Added (k : Fin 3) : sProp 𝕄 := if k.val + 1 ≤ c.val then Arrived Xs c k else Awaited c k

/-- The wait for the row of slot `k`. -/
theorem wait_row {Q : α → sProp 𝕄} (i : Fin 3) (o : ℕ) (ho : o = i.val) {hin} {hsq} {hinm} {hsm} {hsqm} {hsrc} {hdst}
    {k : PUnit → Prog (TpuEff nD τ sig (Elt F) Λ₀ .tc) α} :
    iprop(records Xs K ∗ owing c 0 ∗ Awaited c i)
      ⊢ iprop(((owing c 0 ∗ Arrived Xs c i) -∗ run c (k ⟨⟩) Q)
          -∗ run c (.op (.waitDma2 (((cc0_scratch6 : DmaSems sig S3).slice (Rect.unit (s := S3) ![o] S1.size hin)).squeeze S_ hsq).sem sendM
              ((commM.slice (Rect.unit (s := S3x1x1024) ![o, 0, 0] S1x1x1024.size hinm) hsm).squeeze S1x1024 hsqm) hsrc hdst) k) Q) := by
  subst ho
  unfold owing Awaited
  iintro ⟨#Hrec, ⟨%W, Ho⟩, Hc, Hat⟩ Hk
  ihave Hr' := (records_recv Xs K c i) $$ Hrec
  icases Hr' with ⟨#Hi, #Hre⟩
  iapply (Rounds.wp_wait_rest_token 𝒱₀ ER (Rd Xs) (c : Thread nD τ) none (sm := .dma (recvS i)) (k' := (slotM i).view.dmaCredit) (κ := K (c, jRecv i))
      (wpE_waitDma2_eq 𝒱₀ (c : Thread nD τ) none Set.univ) (Set.mem_univ _) () (O := 0) (W := W) (R := 0) (m := 0) (T := ∅)
      (by rw [Nat.zero_add, expect_recv]; rfl)) $$ [Hc Ho Hat]
  · isplitr; · iexact Hi
    isplitl [Hc]; · iexact Hc
    isplitl [Ho]; · iexact Ho
    isplitr; · rw [MayWait_zero]; iempintro
    iexact Hat
  iintro ⟨Ho, Hat, -, Hpay⟩
  ihave Hpay := (Entails.of_eq (rest_recv Xs c i)) $$ Hpay
  iapply Hk
  isplitl [Ho]
  · iexists (insert (SemLoc.dma (recvS i), ()) W); iexact Ho
  unfold Arrived
  isplitl [Hpay] <;> iassumption

/-- What a load of a slot reads, through the rectangle of the whole landing buffer. -/
theorem read_slot (i : Fin 3) (f : commM.view.ty.Contents (Elt F)) :
    commM.view.readAt (Elt F) (slotRect i).toLoadRect f = lifted ((slotM i).view.read (Elt F) f) := by
  funext j
  unfold lifted
  show commM.view.readAt (Elt F) (slotRect i).toLoadRect f j
    = commM.view.readAt (Elt F) (slotRect i).toLoadRect f
        (Shape.reshapeEquiv (squeezes_S1x1x1024_S1x1024).numel_eq ((Shape.reshapeEquiv (squeezes_S1x1x1024_S1x1024).numel_eq).symm j))
  rw [Equiv.apply_symm_apply]

theorem slot_set (i : Fin 3) : (commM.access (slotRect i)).set ⊆ (slotM i).view.set :=
  subset_of_eq (View.set_reshape (commM.access (slotRect i)) (squeezes_S1x1x1024_S1x1024).numel_eq).symm

theorem load_slot {Q : α → sProp 𝕄} (i : Fin 3) (o : ℕ) (ho : o = i.val) (v : Vec F S1x1024 .f32) {hin} {hl}
    {k : Vec F S1x1x1024 .f32 → Prog (TpuEff nD τ sig (Elt F) Λ₀ .tc) α} :
    owns (c : Thread nD τ) (slotM i) fullShare v
      ⊢ iprop((owns (c : Thread nD τ) (slotM i) fullShare v -∗ run c (k (lifted v)) Q)
          -∗ run c (.op (.load commM (Rect.unit (s := S3x1x1024) ![o, 0, 0] S1x1x1024.size hin).toLoadRect hl) k) Q) := by
  subst ho
  iintro H Hk
  ihave H := (owns_open c _ _ _) $$ H
  icases H with ⟨%f, %hf, H⟩
  subst hf
  rw [← read_slot i f]
  iapply (wp_load_rect 𝒱₀ (c : Thread nD τ) none Set.univ (m := commM) (r := slotRect i) (S := (slotM i).view.set)
    (slot_set i)) $$ H
  iintro H
  iapply Hk
  have h := owns_intro (Ix := Unit) (Name := ℕ) (U := UU) (Lvl := ℕ) (c : Thread nD τ) (slotM i) fullShare f
  iapply h
  iexact H

theorem zero2 : (![0, 0] : Fin 2 → Nat) = fun _ => 0 := funext fun a => by fin_cases a <;> rfl

/-- The rectangle of a whole buffer names every index as itself. -/
theorem all_emb {sh : Shape} {off : Fin sh.rank → ℕ} (hz : off = fun _ => 0) (hin : ∀ a, off a + sh.size a ≤ sh.size a) (j : sh.Idx) :
    (Rect.unit (s := sh) off sh.size hin).emb j = j := by
  subst hz
  funext a
  exact Fin.ext (show 0 + 1 * (j a).val = (j a).val by omega)

theorem read_all {sh : Shape} {e : EltTy} (m : Memref sig .tc .vmem sh e) {off : Fin sh.rank → ℕ} (hz : off = fun _ => 0)
    (hin : ∀ a, off a + sh.size a ≤ sh.size a) (f : m.view.ty.Contents (Elt F)) :
    (m.access (Rect.unit (s := sh) off sh.size hin)).read (Elt F) f = m.view.read (Elt F) f := by
  funext j
  have h := congrArg (fun i => m.view.read (Elt F) f i) (all_emb hz hin j)
  exact h

theorem set_all {sh : Shape} {e : EltTy} (m : Memref sig .tc .vmem sh e) {off : Fin sh.rank → ℕ} (hz : off = fun _ => 0)
    (hin : ∀ a, off a + sh.size a ≤ sh.size a) : (m.access (Rect.unit (s := sh) off sh.size hin)).set ⊆ m.view.set := by
  intro i hi
  obtain ⟨j, -, rfl⟩ := Finset.mem_map.mp hi
  exact Finset.mem_map.mpr ⟨(Rect.unit (s := sh) off sh.size hin).emb j, Finset.mem_univ _, rfl⟩

/-- A load and a store of a whole piece. -/
theorem load_whole {Q : α → sProp 𝕄} {sh : Shape} {e : EltTy} (m : Memref sig .tc .vmem sh e) {off : Fin sh.rank → ℕ} (hz : off = fun _ => 0)
    (v : sh.Idx → Elt F e) {hin} {hl} {k : (sh.Idx → Elt F e) → Prog (TpuEff nD τ sig (Elt F) Λ₀ .tc) α} :
    owns (c : Thread nD τ) m fullShare v
      ⊢ iprop((owns (c : Thread nD τ) m fullShare v -∗ run c (k v) Q)
          -∗ run c (.op (.load m (Rect.unit (s := sh) off sh.size hin).toLoadRect hl) k) Q) := by
  iintro H Hk
  ihave H := (owns_open c _ _ _) $$ H
  icases H with ⟨%f, %hf, H⟩
  subst hf
  iapply (wp_load_rect 𝒱₀ (c : Thread nD τ) none Set.univ (m := m) (r := Rect.unit (s := sh) off sh.size hin) (S := m.view.set) (set_all m hz hin)) $$ H
  iintro H
  rw [read_all m hz hin f]
  iapply Hk
  have h := owns_intro (Ix := Unit) (Name := ℕ) (U := UU) (Lvl := ℕ) (c : Thread nD τ) m fullShare f
  iapply h
  iexact H

theorem store_whole {Q : α → sProp 𝕄} {sh : Shape} {e : EltTy} (m : Memref sig .tc .vmem sh e) {off : Fin sh.rank → ℕ} (hz : off = fun _ => 0)
    (v w : sh.Idx → Elt F e) {hin} {hx} {hmk} {k : PUnit → Prog (TpuEff nD τ sig (Elt F) Λ₀ .tc) α} :
    owns (c : Thread nD τ) m fullShare v
      ⊢ iprop((owns (c : Thread nD τ) m fullShare w -∗ run c (k ⟨⟩) Q)
          -∗ run c (.op (.store m (Rect.unit (s := sh) off sh.size hin) w Finset.univ hx hmk) k) Q) := by
  iintro H Hk
  ihave H := (owns_open c _ _ _) $$ H
  icases H with ⟨%f, %hf, H⟩
  iapply (wp_store 𝒱₀ (c : Thread nD τ) none Set.univ (m := m) (r := Rect.unit (s := sh) off sh.size hin) (Mk := Finset.univ) (S := m.view.set)
    (set_all m hz hin)) $$ H
  iintro H
  iapply Hk
  have h := owns_intro (Ix := Unit) (Name := ℕ) (U := UU) (Lvl := ℕ) (c : Thread nD τ) m fullShare
    ((m.access (Rect.unit (s := sh) off sh.size hin)).write (Elt F) f w Finset.univ)
  rw [← read_all m hz hin, View.read_write_univ] at h
  iapply h
  iexact H

/-- The addition of slot `k`, when the device `k + 1` before holds earlier rows. -/
theorem add_row {Q : α → sProp 𝕄} (i : Fin 3) {m o : ℕ} (hm : m = i.val) (ho : o = i.val) {b : Prop} [Decidable b] (hb : b ↔ i.val + 1 ≤ c.val)
    {w : Vec F S1x1024 .f32 → Vec F S1x1x1024 .f32 → Vec F S1x1024 .f32} (hw : ∀ u v, w u v = k0_pay39 u v)
    {hin hin₁ hin₂ hin₃ hin₄} {hsq} {hl₁ hl₂ hl₃} {hx} {hmk} {hinm} {hsm} {hsqm} {hsrc} {hdst}
    {k : Prog (TpuEff nD τ sig (Elt F) Λ₀ .tc) α} :
    iprop(records Xs K ∗ owing c 0 ∗ pass (Awaited c) (Added Xs c) m ∗ owns (c : Thread nD τ) offM fullShare (offs Xs c m))
      ⊢ iprop(((records Xs K ∗ owing c 0 ∗ pass (Awaited c) (Added Xs c) (m + 1) ∗ owns (c : Thread nD τ) offM fullShare (offs Xs c (m + 1))) -∗ run c k Q)
          -∗ run c (if _h : b then
              (.op (.waitDma2 (((cc0_scratch6 : DmaSems sig S3).slice (Rect.unit (s := S3) ![o] S1.size hin)).squeeze S_ hsq).sem sendM
              ((commM.slice (Rect.unit (s := S3x1x1024) ![o, 0, 0] S1x1x1024.size hinm) hsm).squeeze S1x1024 hsqm) hsrc hdst) fun _ =>
              .op (.load offM (Rect.unit (s := S1x1024) ![0, 0] S1x1024.size hin₁).toLoadRect hl₁) fun u =>
              .op (.load commM (Rect.unit (s := S3x1x1024) ![o, 0, 0] S1x1x1024.size hin₂).toLoadRect hl₂) fun v =>
              .op (.load offM (Rect.unit (s := S1x1024) ![0, 0] S1x1024.size hin₃).toLoadRect hl₃) fun _ =>
              .op (.store offM (Rect.unit (s := S1x1024) ![0, 0] S1x1024.size hin₄) (w u v) Finset.univ hx hmk) fun _ => k)
            else k) Q) := by
  have hof : Fin.ofNat 3 i.val = i := Fin.ext (show i.val % 3 = i.val by omega)
  subst hm
  iintro ⟨#Hrec, Ho, Hp, Hoff⟩ Hk
  ihave Hp := (pass_take (Awaited c) (Added Xs c) i) $$ Hp
  icases Hp with ⟨Hr, Hh⟩
  by_cases hc : i.val + 1 ≤ c.val
  · rw [dif_pos (hb.mpr hc)]
    iapply (wait_row K Xs c i o ho) $$ [Ho Hr]
    · isplitr; · iexact Hrec
      isplitl [Ho] <;> iassumption
    iintro ⟨Ho, Hr⟩
    unfold Arrived recvPay
    icases Hr with ⟨Hslot, Hat⟩
    iapply (load_whole c offM zero2 _) $$ Hoff
    iintro Hoff
    iapply (load_slot c i o ho _) $$ Hslot
    iintro Hslot
    iapply (load_whole c offM zero2 _) $$ Hoff
    iintro Hoff
    iapply (store_whole c offM zero2 _ _) $$ Hoff
    iintro Hoff
    iapply Hk
    isplitr; · iexact Hrec
    isplitl [Ho]; · iexact Ho
    isplitr [Hoff]
    · iapply (pass_put (Awaited c) (Added Xs c) i)
      isplitr [Hh]
      · unfold Added Arrived recvPay
        rw [if_pos hc]
        isplitl [Hslot] <;> iassumption
      · iexact Hh
    · rw [show offs Xs c (i.val + 1) = k0_pay39 (offs Xs c i.val) (lifted (tot (Xs (before i c)))) from by
        show (if i.val + 1 ≤ c.val then _ else _) = _
        rw [if_pos hc, hof], hw]
      iexact Hoff
  · rw [dif_neg (fun h => hc (hb.mp h))]
    iapply Hk
    isplitr; · iexact Hrec
    isplitl [Ho]; · iexact Ho
    isplitr [Hoff]
    · iapply (pass_put (Awaited c) (Added Xs c) i)
      isplitr [Hh]
      · unfold Added
        rw [if_neg hc]
        iexact Hr
      · iexact Hh
    · rw [show offs Xs c (i.val + 1) = offs Xs c i.val from by
        show (if i.val + 1 ≤ c.val then _ else _) = _
        rw [if_neg hc]]
      iexact Hoff

/-- The wait for a row not needed, after the additions. -/
theorem drain_row {Q : α → sProp 𝕄} (i : Fin 3) {m o : ℕ} (hm : m = i.val) (ho : o = i.val) {b : Prop} [Decidable b] (hb : b ↔ ¬ i.val + 1 ≤ c.val)
    {hin} {hsq} {hinm} {hsm} {hsqm} {hsrc} {hdst}
    {k : Prog (TpuEff nD τ sig (Elt F) Λ₀ .tc) α} :
    iprop(records Xs K ∗ owing c 0 ∗ pass (Added Xs c) (Arrived Xs c) m)
      ⊢ iprop(((records Xs K ∗ owing c 0 ∗ pass (Added Xs c) (Arrived Xs c) (m + 1)) -∗ run c k Q)
          -∗ run c (if _h : b then
              (.op (.waitDma2 (((cc0_scratch6 : DmaSems sig S3).slice (Rect.unit (s := S3) ![o] S1.size hin)).squeeze S_ hsq).sem sendM
              ((commM.slice (Rect.unit (s := S3x1x1024) ![o, 0, 0] S1x1x1024.size hinm) hsm).squeeze S1x1024 hsqm) hsrc hdst) fun _ => k)
            else k) Q) := by
  subst hm
  iintro ⟨#Hrec, Ho, Hp⟩ Hk
  ihave Hp := (pass_take (Added Xs c) (Arrived Xs c) i) $$ Hp
  icases Hp with ⟨Hr, Hh⟩
  by_cases hc : i.val + 1 ≤ c.val
  · rw [dif_neg (fun h => hb.mp h hc)]
    iapply Hk
    isplitr; · iexact Hrec
    isplitl [Ho]; · iexact Ho
    iapply (pass_put (Added Xs c) (Arrived Xs c) i)
    ihave Hr := (Entails.of_eq (show Added Xs c i = Arrived Xs c i from if_pos hc)) $$ Hr
    isplitr [Hh]
    · iexact Hr
    · iexact Hh
  · rw [dif_pos (hb.mpr hc)]
    ihave Hr := (Entails.of_eq (show Added Xs c i = Awaited c i from if_neg hc)) $$ Hr
    iapply (wait_row K Xs c i o ho) $$ [Ho Hr]
    · isplitr; · iexact Hrec
      isplitl [Ho] <;> iassumption
    iintro ⟨Ho, Hr⟩
    iapply Hk
    isplitr; · iexact Hrec
    isplitl [Ho]; · iexact Ho
    iapply (pass_put (Added Xs c) (Arrived Xs c) i)
    isplitl [Hr] <;> iassumption

end Cert.KernelIdeal.Scan
-- ==== Proof.KernelIdeal.Parts.lean ====
/-
# The parts of the body

Each part of the printed body, from what it needs to what it leaves: the exchange of totals begins (part 1 and 2), the
running sums of the chunks (3 to 6), the totals of the devices before added up (7), the chunks of the result stored and
copied out (7 to 13), everything waited for (13 to 16).
-/
module

public import proofs.«01_k».proof.Proof.KernelIdeal.Exchange

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Fin 23 → ℕ) (Xs : Dev nD → Vec F S2048x1024 .f32) (c : Dev nD)

/-- The device's own word, as the body computes it. -/
abbrev me (c : Dev nD) : BitVec 32 := Scalar.remsi (Scalar.divsi (Dev.word c) 1#32) 4#32

/-! ## The exchange begins -/

theorem part1_ok {Q : (Σ' (d0 : Dev nD) (v2 : BitVec 32), BitVec 32) → sProp 𝕄} :
    iprop(records Xs K ∗ levAts L lv ∗ owing c (O₀ c) ∗ pass (Offering c) (fun _ => iprop(emp)) 0
        ∗ owns (c : Thread nD τ) xM fullShare (Xs c) ∗ (∃ v, owns (c : Thread nD τ) sendM fullShare v)
        ∗ cred (tallyAt (barCell c) () 3) ∗ atPos ER (barCell c) 0 ∅ 0)
      ⊢ iprop(((owing c (owedRows c) ∗ owns (c : Thread nD τ) xM fullShare (Xs c) ∗ owns (c : Thread nD τ) sendM fullShare (tot (Xs c))
            ∗ atPos ER (barCell c) (0 + 1) ∅ 0 ∗ bigSep Finset.univ (Offered c))
          -∗ Q ⟨c, me c, Scalar.remsi (Scalar.addi (me c) 1#32) 4#32⟩)
        -∗ run c (k0_part1 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6) Q) := by
  rw [k0_part1_eq_skeleton]
  unfold k0_part1_skel
  simp only [semSignalWord, semWaitWord, Prog.lift, Prog.bind_op, Prog.bind_ret, Prog.pure_eq_ret, wp_deviceId]
  iintro ⟨#Hrec, #Hlev, Ho, Hp, Hx, ⟨%v, Hs⟩, Hc, Hat⟩ Hk
  iapply (signal_step K Xs c 0 (m := 0) rfl _ (dev1_eq c) (owedRows c + owedSig c 2 + owedSig c 1) (O' := O₀ c) rfl (by decide)) $$ [Ho Hp]
  · isplitr; · iexact Hrec
    isplitl [Ho] <;> iassumption
  iintro H
  iapply (signal_step K Xs c 1 (m := 0 + 1) rfl _ (dev2_eq c) (owedRows c + owedSig c 2) rfl (by decide)) $$ H
  iintro H
  iapply (signal_step K Xs c 2 (m := 0 + 1 + 1) rfl _ (dev3_eq c) (owedRows c) rfl (by decide)) $$ H
  iintro ⟨-, Ho, -⟩
  iapply (load_whole c xM zero2 _) $$ Hx
  iintro Hx
  iapply (load_whole c sendM zero2 _) $$ Hs
  iintro Hs
  iapply (store_whole c sendM zero2 _ _) $$ Hs
  iintro Hs
  iapply (wait_slots K Xs c (by decide)) $$ [Ho Hc Hat]
  · isplitr; · iexact Hrec
    isplitr; · iexact Hlev
    isplitl [Ho]; · iexact Ho
    isplitl [Hc] <;> iassumption
  iintro ⟨Ho, Hat, Hoff⟩
  iapply (done c)
  iapply Hk
  isplitl [Ho]; · iexact Ho
  isplitl [Hx]; · iexact Hx
  isplitl [Hs]; · iexact Hs
  isplitl [Hat] <;> iassumption

theorem part2_ok {Q : (Σ' (v34 : BitVec 32) (v44 : BitVec 32) (v57 : FVec F S128x128 .f32), FVec F S1x1024 .f32) → sProp 𝕄} (v2 v24 : BitVec 32) :
    iprop(records Xs K ∗ owing c (owedRows c) ∗ pass (Sendable Xs c) (Sending c) 0)
      ⊢ iprop(((records Xs K ∗ owing c 0 ∗ pass (Sendable Xs c) (Sending c) 3)
          -∗ Q ⟨Scalar.remsi (Scalar.addi v2 2#32) 4#32, Scalar.remsi (Scalar.addi v2 3#32) 4#32, k0_pay2, k0_pay3⟩)
        -∗ run c (k0_part2 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 c v2 v24) Q) := by
  rw [k0_part2_eq_skeleton]
  unfold k0_part2_skel
  simp only [Prog.lift, Prog.bind_op, Prog.bind_ret, Prog.pure_eq_ret]
  iintro H Hk
  iapply (send_step K Xs c 0 (m := 0) rfl _ (dev4_eq c) rfl (owedRow c 2 + owedRow c 1) (O' := owedRows c) rfl) $$ H
  iintro H
  iapply (send_step K Xs c 1 (m := 0 + 1) rfl _ (dev5_eq c) rfl (owedRow c 2) rfl) $$ H
  iintro H
  iapply (send_step K Xs c 2 (m := 0 + 1 + 1) rfl _ (dev6_eq c) rfl 0 (zero_add _).symm) $$ H
  iintro H
  iapply (done c)
  iapply Hk
  iexact H

/-! ## The running sums -/

set_option maxRecDepth 65536 in
theorem part3_ok {Q : FVec F S1x1024 .f32 → sProp 𝕄} :
    iprop(owns (c : Thread nD τ) xM fullShare (Xs c) ∗ pass (Fresh c) (Summed Xs c) 0)
      ⊢ iprop(((owns (c : Thread nD τ) xM fullShare (Xs c) ∗ pass (Fresh c) (Summed Xs c) 4) -∗ Q (carry (Xs c) 4))
        -∗ run c (k0_part3 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 k0_pay2 k0_pay3) Q) := by
  rw [k0_part3_eq_skeleton]
  unfold k0_part3_skel
  simp only [Prog.lift, Prog.bind_op, Prog.bind_ret, Prog.pure_eq_ret]
  iintro H Hk
  iapply (sum_chunk Xs c 0 (m := 0) rfl rfl rfl) $$ H
  iintro H
  iapply (sum_chunk Xs c 1 (m := 1) rfl rfl rfl) $$ H
  iintro H
  iapply (sum_chunk Xs c 2 (m := 2) rfl rfl rfl) $$ H
  iintro H
  iapply (sum_chunk Xs c 3 (m := 3) rfl rfl rfl) $$ H
  iintro H
  iapply (done c)
  rw [show k0_pay12 k0_pay2 k0_pay3 (xblk (Xs c) 0) (xblk (Xs c) 1) (xblk (Xs c) 2) (xblk (Xs c) 3) = carry (Xs c) 4 from rfl]
  iapply Hk
  iexact H

set_option maxRecDepth 65536 in
theorem part4_ok {Q : FVec F S1x1024 .f32 → sProp 𝕄} :
    iprop(owns (c : Thread nD τ) xM fullShare (Xs c) ∗ pass (Fresh c) (Summed Xs c) 4)
      ⊢ iprop(((owns (c : Thread nD τ) xM fullShare (Xs c) ∗ pass (Fresh c) (Summed Xs c) 8) -∗ Q (carry (Xs c) 8))
        -∗ run c (k0_part4 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 k0_pay2 (carry (Xs c) 4)) Q) := by
  rw [k0_part4_eq_skeleton]
  unfold k0_part4_skel
  simp only [Prog.lift, Prog.bind_op, Prog.bind_ret, Prog.pure_eq_ret]
  iintro H Hk
  iapply (sum_chunk Xs c 4 (m := 4) rfl rfl rfl) $$ H
  iintro H
  iapply (sum_chunk Xs c 5 (m := 5) rfl rfl rfl) $$ H
  iintro H
  iapply (sum_chunk Xs c 6 (m := 6) rfl rfl rfl) $$ H
  iintro H
  iapply (sum_chunk Xs c 7 (m := 7) rfl rfl rfl) $$ H
  iintro H
  iapply (done c)
  rw [show k0_pay21 k0_pay2 (carry (Xs c) 4) (xblk (Xs c) 4) (xblk (Xs c) 5) (xblk (Xs c) 6) (xblk (Xs c) 7) = carry (Xs c) 8 from rfl]
  iapply Hk
  iexact H

set_option maxRecDepth 65536 in
theorem part5_ok {Q : FVec F S1x1024 .f32 → sProp 𝕄} :
    iprop(owns (c : Thread nD τ) xM fullShare (Xs c) ∗ pass (Fresh c) (Summed Xs c) 8)
      ⊢ iprop(((owns (c : Thread nD τ) xM fullShare (Xs c) ∗ pass (Fresh c) (Summed Xs c) 12) -∗ Q (carry (Xs c) 12))
        -∗ run c (k0_part5 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 k0_pay2 (carry (Xs c) 8)) Q) := by
  rw [k0_part5_eq_skeleton]
  unfold k0_part5_skel
  simp only [Prog.lift, Prog.bind_op, Prog.bind_ret, Prog.pure_eq_ret]
  iintro H Hk
  iapply (sum_chunk Xs c 8 (m := 8) rfl rfl rfl) $$ H
  iintro H
  iapply (sum_chunk Xs c 9 (m := 9) rfl rfl rfl) $$ H
  iintro H
  iapply (sum_chunk Xs c 10 (m := 10) rfl rfl rfl) $$ H
  iintro H
  iapply (sum_chunk Xs c 11 (m := 11) rfl rfl rfl) $$ H
  iintro H
  iapply (done c)
  rw [show k0_pay30 k0_pay2 (carry (Xs c) 8) (xblk (Xs c) 8) (xblk (Xs c) 9) (xblk (Xs c) 10) (xblk (Xs c) 11) = carry (Xs c) 12 from rfl]
  iapply Hk
  iexact H

set_option maxRecDepth 65536 in
theorem part6_ok {Q : F .f32 → sProp 𝕄} :
    iprop(owns (c : Thread nD τ) xM fullShare (Xs c) ∗ pass (Fresh c) (Summed Xs c) 12)
      ⊢ iprop(((owns (c : Thread nD τ) xM fullShare (Xs c) ∗ pass (Fresh c) (Summed Xs c) 16) -∗ Q (Scalar.ofBits .f32 0x00000000#32))
        -∗ run c (k0_part6 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 k0_pay2 (carry (Xs c) 12)) Q) := by
  rw [k0_part6_eq_skeleton]
  unfold k0_part6_skel
  simp only [Prog.lift, Prog.bind_op, Prog.bind_ret, Prog.pure_eq_ret]
  iintro H Hk
  iapply (sum_chunk Xs c 12 (m := 12) rfl rfl rfl) $$ H
  iintro H
  iapply (sum_chunk Xs c 13 (m := 13) rfl rfl rfl) $$ H
  iintro H
  iapply (sum_chunk Xs c 14 (m := 14) rfl rfl rfl) $$ H
  iintro H
  iapply (sum_chunk Xs c 15 (m := 15) rfl rfl rfl) $$ H
  iintro H
  iapply (done c)
  iapply Hk
  iexact H

/-! ## The totals of the devices before -/

theorem at_least_1 (c : Dev nD) : Scalar.cmpi .ne (Scalar.extui (Scalar.cmpi .sge (me c) 1#32)) 0#32 = 1#1 ↔ (0 : Fin 3).val + 1 ≤ c.val := by
  revert c; decide
theorem at_least_2 (c : Dev nD) : Scalar.cmpi .ne (Scalar.extui (Scalar.cmpi .sge (me c) 2#32)) 0#32 = 1#1 ↔ (1 : Fin 3).val + 1 ≤ c.val := by
  revert c; decide
theorem at_least_3 (c : Dev nD) : Scalar.cmpi .ne (Scalar.extui (Scalar.cmpi .sge (me c) 3#32)) 0#32 = 1#1 ↔ (2 : Fin 3).val + 1 ≤ c.val := by
  revert c; decide
theorem below_1 (c : Dev nD) : Scalar.cmpi .ne (Scalar.extui (Scalar.cmpi .slt (me c) 1#32)) 0#32 = 1#1 ↔ ¬ (0 : Fin 3).val + 1 ≤ c.val := by
  revert c; decide
theorem below_2 (c : Dev nD) : Scalar.cmpi .ne (Scalar.extui (Scalar.cmpi .slt (me c) 2#32)) 0#32 = 1#1 ↔ ¬ (1 : Fin 3).val + 1 ≤ c.val := by
  revert c; decide
theorem below_3 (c : Dev nD) : Scalar.cmpi .ne (Scalar.extui (Scalar.cmpi .slt (me c) 3#32)) 0#32 = 1#1 ↔ ¬ (2 : Fin 3).val + 1 ≤ c.val := by
  revert c; decide

theorem part7_ok {Q : Vec F S1x1024 .f32 → sProp 𝕄} (v24 v34 v44 : BitVec 32) :
    iprop(records Xs K ∗ owing c 0 ∗ pass (Awaited c) (Added Xs c) 0 ∗ (∃ v, owns (c : Thread nD τ) offM fullShare v)
        ∗ pass (Ready Xs c) (Flying c) 0)
      ⊢ iprop(((owing c 0 ∗ pass (Awaited c) (Added Xs c) 3 ∗ owns (c : Thread nD τ) offM fullShare (offs Xs c 3)
            ∗ records Xs K ∗ pass (Ready Xs c) (Flying c) 1) -∗ Q (offs Xs c 3))
        -∗ run c (k0_part7 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (me c) v24 v34 v44 (Scalar.ofBits .f32 0x00000000#32)) Q) := by
  rw [k0_part7_eq_skeleton]
  unfold k0_part7_skel
  simp only [Prog.lift, Prog.bind_op, Prog.bind_ret, Prog.pure_eq_ret]
  iintro ⟨#Hrec, Ho, Hp, ⟨%v, Hoff⟩, Hr⟩ Hk
  iapply (load_whole c offM zero2 _) $$ Hoff
  iintro Hoff
  iapply (store_whole c offM zero2 _ (offs Xs c 0)) $$ Hoff
  iintro Hoff
  iapply (add_row K Xs c 0 (m := 0) rfl rfl (at_least_1 c) (fun _ _ => rfl)) $$ [Ho Hp Hoff]
  · isplitr; · iexact Hrec
    isplitl [Ho]; · iexact Ho
    isplitl [Hp] <;> iassumption
  iintro H
  iapply (add_row K Xs c 1 (m := 0 + 1) rfl rfl (at_least_2 c) (fun _ _ => rfl)) $$ H
  iintro H
  iapply (add_row K Xs c 2 (m := 0 + 1 + 1) rfl rfl (at_least_3 c) (fun _ _ => rfl)) $$ H
  iintro ⟨-, Ho, Hp, Hoff⟩
  iapply (load_whole c offM zero2 _) $$ Hoff
  iintro Hoff
  iapply (fill_chunk K Xs c 0 (m := 0) rfl rfl rfl) $$ [Hr]
  · isplitr <;> iassumption
  iintro H
  iapply (fly_chunk K Xs c 0 (m := 1) rfl rfl rfl) $$ H
  iintro ⟨-, H⟩
  iapply (done c)
  iapply Hk
  isplitl [Ho]; · iexact Ho
  isplitl [Hp]; · iexact Hp
  isplitl [Hoff]; · iexact Hoff
  isplitr <;> iassumption

/-! ## The chunks of the result -/

theorem part8_ok {Q : PUnit → sProp 𝕄} :
    iprop(records Xs K ∗ pass (Ready Xs c) (Flying c) 1)
      ⊢ iprop(((records Xs K ∗ Filled Xs c 3) -∗ Q ⟨⟩) -∗ run c (k0_part8 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (offs Xs c 3)) Q) := by
  rw [k0_part8_eq_skeleton]
  unfold k0_part8_skel
  simp only [Prog.lift, Prog.bind_op, Prog.bind_ret, Prog.pure_eq_ret]
  iintro H Hk
  iapply (fill_chunk K Xs c 1 (m := 1) rfl rfl rfl) $$ H
  iintro H
  iapply (fly_chunk K Xs c 1 (m := 2) rfl rfl rfl) $$ H
  iintro H
  iapply (fill_chunk K Xs c 2 (m := 2) rfl rfl rfl) $$ H
  iintro H
  iapply (fly_chunk K Xs c 2 (m := 3) rfl rfl rfl) $$ H
  iintro H
  iapply (fill_chunk K Xs c 3 (m := 3) rfl rfl rfl) $$ H
  iintro H
  iapply (done c)
  iapply Hk
  iexact H

theorem part9_ok {Q : PUnit → sProp 𝕄} :
    iprop(records Xs K ∗ Filled Xs c 3)
      ⊢ iprop(((records Xs K ∗ Filled Xs c 6) -∗ Q ⟨⟩) -∗ run c (k0_part9 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (offs Xs c 3)) Q) := by
  rw [k0_part9_eq_skeleton]
  unfold k0_part9_skel
  simp only [Prog.lift, Prog.bind_op, Prog.bind_ret, Prog.pure_eq_ret]
  iintro H Hk
  iapply (fly_chunk K Xs c 3 (m := 4) rfl rfl rfl) $$ H
  iintro H
  iapply (fill_chunk K Xs c 4 (m := 4) rfl rfl rfl) $$ H
  iintro H
  iapply (fly_chunk K Xs c 4 (m := 5) rfl rfl rfl) $$ H
  iintro H
  iapply (fill_chunk K Xs c 5 (m := 5) rfl rfl rfl) $$ H
  iintro H
  iapply (fly_chunk K Xs c 5 (m := 6) rfl rfl rfl) $$ H
  iintro H
  iapply (fill_chunk K Xs c 6 (m := 6) rfl rfl rfl) $$ H
  iintro H
  iapply (done c)
  iapply Hk
  iexact H

theorem part10_ok {Q : PUnit → sProp 𝕄} :
    iprop(records Xs K ∗ Filled Xs c 6)
      ⊢ iprop(((records Xs K ∗ Filled Xs c 9) -∗ Q ⟨⟩) -∗ run c (k0_part10 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (offs Xs c 3)) Q) := by
  rw [k0_part10_eq_skeleton]
  unfold k0_part10_skel
  simp only [Prog.lift, Prog.bind_op, Prog.bind_ret, Prog.pure_eq_ret]
  iintro H Hk
  iapply (fly_chunk K Xs c 6 (m := 7) rfl rfl rfl) $$ H
  iintro H
  iapply (fill_chunk K Xs c 7 (m := 7) rfl rfl rfl) $$ H
  iintro H
  iapply (fly_chunk K Xs c 7 (m := 8) rfl rfl rfl) $$ H
  iintro H
  iapply (fill_chunk K Xs c 8 (m := 8) rfl rfl rfl) $$ H
  iintro H
  iapply (fly_chunk K Xs c 8 (m := 9) rfl rfl rfl) $$ H
  iintro H
  iapply (fill_chunk K Xs c 9 (m := 9) rfl rfl rfl) $$ H
  iintro H
  iapply (done c)
  iapply Hk
  iexact H

theorem part11_ok {Q : PUnit → sProp 𝕄} :
    iprop(records Xs K ∗ Filled Xs c 9)
      ⊢ iprop(((records Xs K ∗ Filled Xs c 12) -∗ Q ⟨⟩) -∗ run c (k0_part11 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (offs Xs c 3)) Q) := by
  rw [k0_part11_eq_skeleton]
  unfold k0_part11_skel
  simp only [Prog.lift, Prog.bind_op, Prog.bind_ret, Prog.pure_eq_ret]
  iintro H Hk
  iapply (fly_chunk K Xs c 9 (m := 10) rfl rfl rfl) $$ H
  iintro H
  iapply (fill_chunk K Xs c 10 (m := 10) rfl rfl rfl) $$ H
  iintro H
  iapply (fly_chunk K Xs c 10 (m := 11) rfl rfl rfl) $$ H
  iintro H
  iapply (fill_chunk K Xs c 11 (m := 11) rfl rfl rfl) $$ H
  iintro H
  iapply (fly_chunk K Xs c 11 (m := 12) rfl rfl rfl) $$ H
  iintro H
  iapply (fill_chunk K Xs c 12 (m := 12) rfl rfl rfl) $$ H
  iintro H
  iapply (done c)
  iapply Hk
  iexact H

theorem part12_ok {Q : (Σ' (v368 : FVec F S128x1024 .f32), Vec F S128x1024 .f32) → sProp 𝕄} :
    iprop(records Xs K ∗ Filled Xs c 12)
      ⊢ iprop(((records Xs K ∗ owns (c : Thread nD τ) (ovP 15) fullShare (loc (Xs c) 15) ∗ Target c 15 ∗ hole (Ready Xs c) (Flying c) 15)
            -∗ Q ⟨k0_pay57 (offs Xs c 3) (loc (Xs c) 15), loc (Xs c) 15⟩)
        -∗ run c (k0_part12 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (offs Xs c 3)) Q) := by
  rw [k0_part12_eq_skeleton]
  unfold k0_part12_skel
  simp only [Prog.lift, Prog.bind_op, Prog.bind_ret, Prog.pure_eq_ret]
  iintro H Hk
  iapply (fly_chunk K Xs c 12 (m := 13) rfl rfl rfl) $$ H
  iintro H
  iapply (fill_chunk K Xs c 13 (m := 13) rfl rfl rfl) $$ H
  iintro H
  iapply (fly_chunk K Xs c 13 (m := 14) rfl rfl rfl) $$ H
  iintro H
  iapply (fill_chunk K Xs c 14 (m := 14) rfl rfl rfl) $$ H
  iintro H
  iapply (fly_chunk K Xs c 14 (m := 15) rfl rfl rfl) $$ H
  iintro H
  icases H with ⟨#Hrec, H⟩
  ihave H := (show pass (Ready Xs c) (Flying c) 15 ⊢ iprop(Ready Xs c 15 ∗ hole (Ready Xs c) (Flying c) 15) from pass_take (Ready Xs c) (Flying c) 15) $$ H
  unfold Ready Summed
  icases H with ⟨⟨Hov, Ht⟩, Hh⟩
  iapply (load_ov c 15 _ rfl _) $$ Hov
  iintro Hov
  iapply (load_ov c 15 _ rfl _) $$ Hov
  iintro Hov
  iapply (done c)
  iapply Hk
  isplitr; · iexact Hrec
  isplitl [Hov]; · iexact Hov
  isplitl [Ht] <;> iassumption

/-! ## Everything waited for -/

theorem part13_ok {Q : PUnit → sProp 𝕄} (v24 v34 v44 : BitVec 32) (u : Vec F S128x1024 .f32) :
    iprop(records Xs K ∗ owing c 0 ∗ pass (Added Xs c) (Arrived Xs c) 0 ∗ pass (Sending c) (Sent Xs c) 0
        ∗ owns (c : Thread nD τ) (ovP 15) fullShare (loc (Xs c) 15) ∗ Target c 15 ∗ hole (Ready Xs c) (Flying c) 15)
      ⊢ iprop(((pass (Ready Xs c) (Flying c) 16 ∗ pass (Added Xs c) (Arrived Xs c) 3
            ∗ records Xs K ∗ owing c 0 ∗ pass (Sending c) (Sent Xs c) 1) -∗ Q ⟨⟩)
        -∗ run c (k0_part13 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6 (me c) v24 v34 v44 (k0_pay57 (offs Xs c 3) (loc (Xs c) 15)) u) Q) := by
  rw [k0_part13_eq_skeleton]
  unfold k0_part13_skel
  simp only [Prog.lift, Prog.bind_op, Prog.bind_ret, Prog.pure_eq_ret]
  iintro ⟨#Hrec, Ho, Ha, Hs, Hov, Ht, Hh⟩ Hk
  iapply (store_ov c 15 _ rfl _ (fin Xs c 15)) $$ Hov
  iintro Hov
  iapply (fly_chunk K Xs c 15 (m := 16) rfl rfl rfl) $$ [Hov Ht Hh]
  · isplitr; · iexact Hrec
    unfold Filled
    isplitl [Hov]; · iexact Hov
    isplitl [Ht] <;> iassumption
  iintro ⟨-, Hf⟩
  iapply (drain_row K Xs c 0 (m := 0) rfl rfl (below_1 c)) $$ [Ho Ha]
  · isplitr; · iexact Hrec
    isplitl [Ho] <;> iassumption
  iintro H
  iapply (drain_row K Xs c 1 (m := 0 + 1) rfl rfl (below_2 c)) $$ H
  iintro H
  iapply (drain_row K Xs c 2 (m := 0 + 1 + 1) rfl rfl (below_3 c)) $$ H
  iintro ⟨-, Ho, Ha⟩
  iapply (wait_sent K Xs c 0 (m := 0) rfl rfl) $$ [Ho Hs]
  · isplitr; · iexact Hrec
    isplitl [Ho] <;> iassumption
  iintro H
  iapply (done c)
  iapply Hk
  isplitl [Hf]; · iexact Hf
  isplitl [Ha] <;> iassumption

theorem part14_ok {Q : PUnit → sProp 𝕄} :
    iprop(records Xs K ∗ owing c 0 ∗ pass (Sending c) (Sent Xs c) 1 ∗ pass (Flying c) (Landed Xs c) 0)
      ⊢ iprop(((pass (Sending c) (Sent Xs c) 3 ∗ records Xs K ∗ owing c 0 ∗ pass (Flying c) (Landed Xs c) 4) -∗ Q ⟨⟩)
        -∗ run c (k0_part14 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6) Q) := by
  rw [k0_part14_eq_skeleton]
  unfold k0_part14_skel
  simp only [Prog.lift, Prog.bind_op, Prog.bind_ret, Prog.pure_eq_ret]
  iintro ⟨#Hrec, Ho, Hs, Hf⟩ Hk
  iapply (wait_sent K Xs c 1 (m := 1) rfl rfl) $$ [Ho Hs]
  · isplitr; · iexact Hrec
    isplitl [Ho] <;> iassumption
  iintro H
  iapply (wait_sent K Xs c 2 (m := 1 + 1) rfl rfl) $$ H
  iintro ⟨-, Ho, Hs⟩
  iapply (wait_chunk K Xs c 0 (m := 0) rfl rfl rfl) $$ [Ho Hf]
  · isplitr; · iexact Hrec
    isplitl [Ho] <;> iassumption
  iintro H
  iapply (wait_chunk K Xs c 1 (m := 1) rfl rfl rfl) $$ H
  iintro H
  iapply (wait_chunk K Xs c 2 (m := 2) rfl rfl rfl) $$ H
  iintro H
  iapply (wait_chunk K Xs c 3 (m := 3) rfl rfl rfl) $$ H
  iintro H
  iapply (done c)
  iapply Hk
  isplitl [Hs] <;> iassumption

theorem part15_ok {Q : PUnit → sProp 𝕄} :
    iprop(records Xs K ∗ owing c 0 ∗ pass (Flying c) (Landed Xs c) 4)
      ⊢ iprop(((records Xs K ∗ owing c 0 ∗ pass (Flying c) (Landed Xs c) 10) -∗ Q ⟨⟩) -∗ run c (k0_part15 (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6) Q) := by
  rw [k0_part15_eq_skeleton]
  unfold k0_part15_skel
  simp only [Prog.lift, Prog.bind_op, Prog.bind_ret, Prog.pure_eq_ret]
  iintro H Hk
  iapply (wait_chunk K Xs c 4 (m := 4) rfl rfl rfl) $$ H
  iintro H
  iapply (wait_chunk K Xs c 5 (m := 5) rfl rfl rfl) $$ H
  iintro H
  iapply (wait_chunk K Xs c 6 (m := 6) rfl rfl rfl) $$ H
  iintro H
  iapply (wait_chunk K Xs c 7 (m := 7) rfl rfl rfl) $$ H
  iintro H
  iapply (wait_chunk K Xs c 8 (m := 8) rfl rfl rfl) $$ H
  iintro H
  iapply (wait_chunk K Xs c 9 (m := 9) rfl rfl rfl) $$ H
  iintro H
  iapply (done c)
  iapply Hk
  iexact H

end Cert.KernelIdeal.Scan
-- ==== Proof.KernelIdeal.Body.lean ====
/-
# The whole body on one device

The sixteen pieces of the body one after another, from what a device holds when its body starts to what it holds when
everything it sent, received and copied has been waited for.
-/
module

public import proofs.«01_k».proof.Proof.KernelIdeal.Parts
public import Idealize.ShloMosaic.Lib.MemrefSat

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Fin 23 → ℕ) (Xs : Dev nD → Vec F S2048x1024 .f32) (c : Dev nD)

/-! ## The three shares of the totals row -/

theorem bigSep_three (Φ : Fin 3 → sProp 𝕄) : bigSep Finset.univ Φ = iprop(Φ 0 ∗ Φ 1 ∗ Φ 2) :=
  bigSep_univ_eq_bigSepL [0, 1, 2] (by decide) (by decide) Φ

/-- A share of the totals row is its two halves. -/
theorem halves (q : PosShare TreeShare) (X : Vec F S1x1024 .f32) :
    (owns (c : Thread nD τ) sendM q X : sProp 𝕄) ⊣⊢ iprop(owns (c : Thread nD τ) sendM q.left X ∗ owns (c : Thread nD τ) sendM q.right X) :=
  owns_halves (c : Thread nD τ) sendM q X

/-- The row of totals owned whole is its three shares, -/
theorem shares_split (X : Vec F S1x1024 .f32) :
    (owns (c : Thread nD τ) sendM fullShare X : sProp 𝕄) ⊢ bigSep Finset.univ fun k => owns (c : Thread nD τ) sendM (share k) X := by
  rw [bigSep_three]
  iintro H
  ihave H := (halves c fullShare X).1 $$ H
  icases H with ⟨Hl, Hr⟩
  ihave Hr := (halves c fullShare.right X).1 $$ Hr
  icases Hr with ⟨Hrl, Hrr⟩
  isplitl [Hl]; · iexact Hl
  isplitl [Hrl]; · iexact Hrl
  iexact Hrr

/-- and the three shares are the row owned whole. -/
theorem shares_join (X : Vec F S1x1024 .f32) :
    (bigSep Finset.univ fun k => owns (c : Thread nD τ) sendM (share k) X) ⊢ (owns (c : Thread nD τ) sendM fullShare X : sProp 𝕄) := by
  rw [bigSep_three]
  iintro ⟨Hl, Hrl, Hrr⟩
  iapply (halves c fullShare X).2
  isplitl [Hl]; · iexact Hl
  iapply (halves c fullShare.right X).2
  isplitl [Hrl]; · iexact Hrl
  iexact Hrr

/-! ## From one pass to the next -/

/-- What the transfer of slot `k` needs beside its share of the row and the slot it writes. -/
def Route (c : Dev nD) (k : Fin 3) : sProp 𝕄 :=
  iprop(dutyTok ER (sendCell c k) 0 0 ∗ dutyTok ER (recvCell (after k c) k) 0 0 ∗ atPos ER (sendCell c k) 0 ∅ 0)

/-- The shares, the offered slots and the routes make the three transfers ready. -/
theorem sendable_intro :
    iprop(owns (c : Thread nD τ) sendM fullShare (tot (Xs c)) ∗ bigSep Finset.univ (Offered c) ∗ bigSep Finset.univ (Route c))
      ⊢ pass (Sendable Xs c) (Sending c) 0 := by
  rw [pass_zero]
  unfold Sendable Route
  simp only [bigSep_sep']
  iintro ⟨Hs, Ho, Hr⟩
  isplitl [Hs]
  · iapply (shares_split c (tot (Xs c))); iexact Hs
  isplitl [Ho] <;> iassumption

/-- The running sums and the places they go make the chunks ready. -/
theorem ready_intro :
    iprop(pass (Fresh c) (Summed Xs c) 16 ∗ bigSep Finset.univ (Target c)) ⊢ pass (Ready Xs c) (Flying c) 0 := by
  rw [pass_zero, pass_full]
  unfold Ready
  rw [bigSep_sep']

/-! ## The body -/

/-- What the body starts from, -/
def Before : sProp 𝕄 :=
  iprop(records Xs K ∗ levAts L lv ∗ owing c (O₀ c) ∗ bigSep Finset.univ (Offering c) ∗ owns (c : Thread nD τ) xM fullShare (Xs c)
    ∗ (∃ v, owns (c : Thread nD τ) sendM fullShare v) ∗ cred (tallyAt (barCell c) () 3) ∗ atPos ER (barCell c) 0 ∅ 0
    ∗ bigSep Finset.univ (Route c) ∗ bigSep Finset.univ (Fresh c) ∗ bigSep Finset.univ (Awaited c)
    ∗ (∃ v, owns (c : Thread nD τ) offM fullShare v) ∗ bigSep Finset.univ (Target c))

/-- and what it leaves. -/
def After : sProp 𝕄 :=
  iprop(records Xs K ∗ owing c 0 ∗ owns (c : Thread nD τ) xM fullShare (Xs c) ∗ owns (c : Thread nD τ) offM fullShare (offs Xs c 3)
    ∗ atPos ER (barCell c) (0 + 1) ∅ 0 ∗ bigSep Finset.univ (Arrived Xs c) ∗ bigSep Finset.univ (Sent Xs c) ∗ bigSep Finset.univ (Landed Xs c))

set_option maxRecDepth 65536 in
/-- The body from what it starts from leaves what it should. -/
theorem body_ok {Q : PUnit → sProp 𝕄} :
    Before K Xs c
      ⊢ iprop((After K Xs c -∗ Q ⟨⟩)
        -∗ run c (cc0_body (F := F) xM (hstage0_0 0) outM (Memref.isWhole_whole _) ovM (Memref.isWhole_whole _) sendM (Memref.isWhole_whole _) commM (Memref.isWhole_whole _) offM (Memref.isWhole_whole _) cc0_scratch4 cc0_scratch5 cc0_scratch6) Q) := by
  rw [cc0_body_eq_skeleton]
  unfold cc0_body_skel
  rw [k0_part16_eq_skeleton]
  unfold k0_part16_skel
  unfold Before
  simp only [Prog.bind_assoc, wp_bind]
  iintro ⟨#Hrec, #Hlev, Ho, Hoff, Hx, Hs, Hc, Hbar, Hroute, Hfresh, Haw, Hoffs, Htgt⟩ Hk
  iapply (part1_ok K Xs c) $$ [Ho Hoff Hx Hs Hc Hbar]
  · isplitr; · iexact Hrec
    isplitr; · iexact Hlev
    isplitl [Ho]; · iexact Ho
    isplitl [Hoff]; · rw [pass_zero]; iexact Hoff
    isplitl [Hx]; · iexact Hx
    isplitl [Hs]; · iexact Hs
    isplitl [Hc] <;> iassumption
  iintro ⟨Ho, Hx, Hs, Hbar, Hoff⟩
  dsimp only
  iapply (part2_ok K Xs c _ _) $$ [Ho Hs Hoff Hroute]
  · isplitr; · iexact Hrec
    isplitl [Ho]; · iexact Ho
    iapply (sendable_intro Xs c)
    isplitl [Hs]; · iexact Hs
    isplitl [Hoff] <;> iassumption
  iintro ⟨-, Ho, Hs⟩
  dsimp only
  iapply (part3_ok Xs c) $$ [Hx Hfresh]
  · isplitl [Hx]; · iexact Hx
    rw [pass_zero]; iexact Hfresh
  iintro H
  iapply (part4_ok Xs c) $$ H
  iintro H
  iapply (part5_ok Xs c) $$ H
  iintro H
  iapply (part6_ok Xs c) $$ H
  iintro ⟨Hx, Hsum⟩
  iapply (part7_ok K Xs c _ _ _) $$ [Ho Haw Hoffs Hsum Htgt]
  · isplitr; · iexact Hrec
    isplitl [Ho]; · iexact Ho
    isplitl [Haw]; · rw [pass_zero]; iexact Haw
    isplitl [Hoffs]; · iexact Hoffs
    iapply (ready_intro Xs c)
    isplitl [Hsum] <;> iassumption
  iintro ⟨Ho, Haw, Hoffs, H⟩
  iapply (part8_ok K Xs c) $$ H
  iintro H
  iapply (part9_ok K Xs c) $$ H
  iintro H
  iapply (part10_ok K Xs c) $$ H
  iintro H
  iapply (part11_ok K Xs c) $$ H
  iintro H
  iapply (part12_ok K Xs c) $$ H
  iintro ⟨-, Hov, Ht, Hh⟩
  dsimp only
  iapply (part13_ok K Xs c _ _ _ _) $$ [Ho Haw Hs Hov Ht Hh]
  · isplitr; · iexact Hrec
    isplitl [Ho]; · iexact Ho
    isplitl [Haw]
    · ihave Haw := (Entails.of_eq (pass_next (Awaited c) (Added Xs c) (Arrived Xs c))) $$ Haw
      iexact Haw
    isplitl [Hs]
    · ihave Hs := (Entails.of_eq (pass_next (Sendable Xs c) (Sending c) (Sent Xs c))) $$ Hs
      iexact Hs
    isplitl [Hov]; · iexact Hov
    isplitl [Ht] <;> iassumption
  iintro ⟨Hf, Harr, -, Ho, Hs⟩
  iapply (part14_ok K Xs c) $$ [Ho Hs Hf]
  · isplitr; · iexact Hrec
    isplitl [Ho]; · iexact Ho
    isplitl [Hs]; · iexact Hs
    ihave Hf := (Entails.of_eq (pass_next (Ready Xs c) (Flying c) (Landed Xs c))) $$ Hf
    iexact Hf
  iintro ⟨Hs, H⟩
  iapply (part15_ok K Xs c) $$ H
  iintro H
  simp only [Prog.lift, Prog.bind_op, Prog.bind_ret, Prog.pure_eq_ret]
  iapply (wait_chunk K Xs c 10 (m := 10) rfl rfl rfl) $$ H
  iintro H
  iapply (done c)
  iapply (wait_chunk K Xs c 11 (m := 11) rfl rfl rfl) $$ H
  iintro H
  iapply (done c)
  iapply (wait_chunk K Xs c 12 (m := 12) rfl rfl rfl) $$ H
  iintro H
  iapply (done c)
  iapply (wait_chunk K Xs c 13 (m := 13) rfl rfl rfl) $$ H
  iintro H
  iapply (done c)
  iapply (wait_chunk K Xs c 14 (m := 14) rfl rfl rfl) $$ H
  iintro H
  iapply (done c)
  iapply (done c)
  iapply (wait_chunk K Xs c 15 (m := 15) rfl rfl rfl) $$ H
  iintro ⟨-, Ho, Hl⟩
  iapply (done c)
  iapply (done c)
  iapply Hk
  unfold After
  isplitr; · iexact Hrec
  isplitl [Ho]; · iexact Ho
  isplitl [Hx]; · iexact Hx
  isplitl [Hoffs]; · iexact Hoffs
  isplitl [Hbar]; · iexact Hbar
  isplitl [Harr]
  · ihave H := (Entails.of_eq (pass_full (Added Xs c) (Arrived Xs c))) $$ Harr; iexact H
  isplitl [Hs]
  · ihave H := (Entails.of_eq (pass_full (Sending c) (Sent Xs c))) $$ Hs; iexact H
  · ihave H := (Entails.of_eq (pass_full (Flying c) (Landed Xs c))) $$ Hl; iexact H

end Cert.KernelIdeal.Scan
-- ==== Proof.KernelIdeal.Pieces.lean ====
/-
# The buffers in pieces

The running sums and the result are worked on chunk by chunk, the landing buffer slot by slot. Each buffer is its
pieces: split at the start, joined at the end.
-/
module

public import proofs.«01_k».proof.Proof.KernelIdeal.Body

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Xs : Dev nD → Vec F S2048x1024 .f32) (c : Dev nD)

/-- A piece owned at some contents. -/
theorem owns_some {sp : Space} {sh : Shape} {e : EltTy} (m : Memref sig .tc sp sh e) (q : PosShare TreeShare) (X : sh.Idx → Elt F e) :
    (owns (c : Thread nD τ) m q X : sProp 𝕄) ⊢ iprop(∃ v, owns (c : Thread nD τ) m q v) := by
  iintro H
  iexists X
  iexact H

/-! ## Chunks -/

/-- A block owned whole is its sixteen chunks, each at some contents; -/
theorem chunks_split {sp : Space} (m : Memref sig .tc sp S2048x1024 .f32) (X : Vec F S2048x1024 .f32) :
    (owns (c : Thread nD τ) m fullShare X : sProp 𝕄)
      ⊢ bigSep Finset.univ fun r : Fin 16 => iprop(∃ v, owns (c : Thread nD τ) (m.slice (chunk r) (fun _ => rfl)) fullShare v) :=
  (owns_rects (c : Thread nD τ) m fullShare chunk (fun _ _ => rfl) chunks_disjoint chunks_cover X).trans
    (bigSep_mono fun r _ => owns_some c _ _ _)

/-- and sixteen chunks holding the device's result are the block holding it. -/
theorem chunks_join {sp : Space} (m : Memref sig .tc sp S2048x1024 .f32) :
    (bigSep Finset.univ fun r : Fin 16 => owns (c : Thread nD τ) (m.slice (chunk r) (fun _ => rfl)) fullShare (fin Xs c r))
      ⊢ (owns (c : Thread nD τ) m fullShare (outAll Xs c) : sProp 𝕄) := by
  have h := owns_of_rects (Val := Elt F) (Ix := Unit) (Name := ℕ) (U := UU) (Lvl := ℕ) (c : Thread nD τ) m fullShare chunk (fun _ _ => rfl)
    chunks_disjoint chunks_cover (outAll Xs c)
  refine (Entails.of_eq (bigSep_congr fun r _ => ?_)).trans h
  rw [← outAll_emb Xs c r]

/-! ## Slots -/

theorem slot_emb_row (k : Fin 3) (j : S1x1x1024.Idx) : (((slotRect k).emb j) 0).val = k.val := by
  have h0 : (((slotRect k).emb j) 0).val = k.val + 1 * (j 0).val := rfl
  have hj : (j 0).val < 1 := (j 0).isLt
  omega

theorem slots_disjoint : ∀ k k' : Fin 3, k ≠ k' → Disjoint (slotRect k).set (slotRect k').set := by
  intro k k' h
  rw [Finset.disjoint_left]
  intro i hi hi'
  rw [← Rect.map_emb_univ] at hi hi'
  obtain ⟨j, -, rfl⟩ := Finset.mem_map.mp hi
  obtain ⟨j', -, hj'⟩ := Finset.mem_map.mp hi'
  exact h (Fin.ext (by rw [← slot_emb_row k j, ← slot_emb_row k' j', hj']))

theorem slots_cover : Finset.univ.biUnion (fun k => (slotRect k).set) = Finset.univ := by
  ext i
  simp only [Finset.mem_biUnion, Finset.mem_univ, true_and, iff_true]
  refine ⟨⟨(i 0).val, (i 0).isLt⟩, ?_⟩
  rw [← Rect.map_emb_univ]
  refine Finset.mem_map.mpr ⟨fun a => match a with | ⟨0, _⟩ => ⟨0, Nat.one_pos⟩ | ⟨1, _⟩ => i 1 | ⟨2, _⟩ => i 2, Finset.mem_univ _, ?_⟩
  funext a
  match a with
  | ⟨0, _⟩ => exact Fin.ext (show (i 0).val + 1 * 0 = (i 0).val by omega)
  | ⟨1, _⟩ => exact Fin.ext (show 0 + 1 * (i 1).val = (i 1).val by omega)
  | ⟨2, _⟩ => exact Fin.ext (show 0 + 1 * (i 2).val = (i 2).val by omega)

/-- Pieces of a disjoint family, each with its own contents, are the parts of one function. -/
theorem glue {T : Type} {sh : Shape} {V : Type} [Nonempty V] (r : T → Rect sh) (hd : ∀ t t', t ≠ t' → Disjoint (r t).set (r t').set)
    (X : ∀ t, (r t).shape.Idx → V) : ∃ Y : sh.Idx → V, ∀ t, (fun j => Y ((r t).emb j)) = X t := by
  have hinj : Function.Injective fun p : Σ t, (r t).shape.Idx => (r p.1).emb p.2 := by
    rintro ⟨t, j⟩ ⟨t', j'⟩ h
    have h' : (r t).emb j = (r t').emb j' := h
    have ht : t = t' := by
      by_contra hne
      have h1 : (r t).emb j ∈ (r t).set := by rw [← Rect.map_emb_univ]; exact Finset.mem_map_of_mem _ (Finset.mem_univ j)
      have h2 : (r t).emb j ∈ (r t').set := by rw [h', ← Rect.map_emb_univ]; exact Finset.mem_map_of_mem _ (Finset.mem_univ j')
      exact Finset.disjoint_left.mp (hd t t' hne) h1 h2
    subst ht
    rw [(r t).emb.injective h']
  refine ⟨Function.extend (fun p : Σ t, (r t).shape.Idx => (r p.1).emb p.2) (fun p => X p.1 p.2) fun _ => Classical.arbitrary V, fun t => funext fun j => ?_⟩
  exact hinj.extend_apply _ _ ⟨t, j⟩

/-- A slot as a row and as a rectangle is the same elements. -/
theorem slot_same (k : Fin 3) : (slotM k).view.set = (commM.slice (slotRect k) (fun _ => rfl)).view.set :=
  View.set_reshape (commM.access (slotRect k)) (squeezes_S1x1x1024_S1x1024).numel_eq

theorem slot_of_rect (k : Fin 3) :
    iprop(∃ X, owns (c : Thread nD τ) (commM.slice (slotRect k) (fun _ => rfl)) fullShare X)
      ⊢ (iprop(∃ v, owns (c : Thread nD τ) (slotM k) fullShare v) : sProp 𝕄) := by
  iintro ⟨%X, H⟩
  ihave H := (owns_open c _ _ _) $$ H
  icases H with ⟨%f, %hf, H⟩
  iexists (slotM k).view.read (Elt F) f
  iapply (owns_intro (c : Thread nD τ) (slotM k) fullShare f)
  rw [slot_same k]
  iexact H

theorem rect_of_slot (k : Fin 3) :
    iprop(∃ v, owns (c : Thread nD τ) (slotM k) fullShare v)
      ⊢ (iprop(∃ X, owns (c : Thread nD τ) (commM.slice (slotRect k) (fun _ => rfl)) fullShare X) : sProp 𝕄) := by
  iintro ⟨%v, H⟩
  ihave H := (owns_open c _ _ _) $$ H
  icases H with ⟨%f, %hf, H⟩
  iexists (commM.slice (slotRect k) (fun _ => rfl)).view.read (Elt F) f
  iapply (owns_intro (c : Thread nD τ) (commM.slice (slotRect k) (fun _ => rfl)) fullShare f)
  rw [← slot_same k]
  iexact H

/-- The landing buffer owned whole is its three slots, each at some contents, -/
theorem slots_split (X : Vec F S3x1x1024 .f32) :
    (owns (c : Thread nD τ) commM fullShare X : sProp 𝕄) ⊢ bigSep Finset.univ fun k : Fin 3 => iprop(∃ v, owns (c : Thread nD τ) (slotM k) fullShare v) :=
  (owns_rects (c : Thread nD τ) commM fullShare slotRect (fun _ _ => rfl) slots_disjoint slots_cover X).trans
    (bigSep_mono fun k _ => (owns_some c _ _ _).trans (slot_of_rect c k))

/-- and three slots are the landing buffer owned whole. -/
theorem slots_join :
    (bigSep Finset.univ fun k : Fin 3 => iprop(∃ v, owns (c : Thread nD τ) (slotM k) fullShare v))
      ⊢ (iprop(∃ X, owns (c : Thread nD τ) commM fullShare X) : sProp 𝕄) := by
  refine (bigSep_mono fun k _ => rect_of_slot c k).trans ?_
  haveI : ∀ _ : Fin 3, Nonempty (Vec F S1x1x1024 .f32) := fun _ => ⟨fun _ => Scalar.ofBits .f32 0⟩
  haveI : Nonempty (Elt F .f32) := ⟨Scalar.ofBits .f32 0⟩
  refine (BI.bigSep_exists_pi Finset.univ fun (k : Fin 3) (X : Vec F S1x1x1024 .f32) =>
    (owns (c : Thread nD τ) (commM.slice (slotRect k) (fun _ => rfl)) fullShare X : sProp 𝕄)).trans ?_
  iintro ⟨%X, H⟩
  obtain ⟨Y, hY⟩ := glue slotRect slots_disjoint X
  iexists Y
  iapply (owns_of_rects (Val := Elt F) (c : Thread nD τ) commM fullShare slotRect (fun _ _ => rfl) slots_disjoint slots_cover Y)
  ihave H := (Entails.of_eq (bigSep_congr fun k _ => by rw [← hY k])) $$ H
  iexact H

/-- The order the slots are offered in: the last first. -/
theorem slots_offered :
    (bigSep Finset.univ fun k : Fin 3 => iprop(∃ v, owns (c : Thread nD τ) (slotM k) fullShare v) : sProp 𝕄)
      = bigSep Finset.univ fun d : Fin 3 => iprop(∃ v, owns (c : Thread nD τ) (slotM d.rev) fullShare v) :=
  bigSep_univ_equiv (Fin.revPerm (n := 3)) _

end Cert.KernelIdeal.Scan
-- ==== Proof.KernelIdeal.Ghost.lean ====
/-
# The ghost state of the exchange at launch

Every cell of every device is opened at launch and closed at the end. The token of each duty goes to the device that
pays it, and each device gets the credit of what it waits for.
-/
module

public import proofs.«01_k».proof.Proof.KernelIdeal.Pieces

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Fin 23 → ℕ) (Xs : Dev nD → Vec F S2048x1024 .f32) (c : Dev nD)

/-! ## A device's cells by kind -/

theorem kcell_out (r : Fin 16) : kcell (c, jOut r) = outCell c r := congrArg (Prod.mk (c : Thread nD τ)) (csem_out r)
theorem kcell_send (k : Fin 3) : kcell (c, jSend k) = sendCell c k := congrArg (Prod.mk (c : Thread nD τ)) (csem_send k)
theorem kcell_recv (k : Fin 3) : kcell (c, jRecv k) = recvCell c k := congrArg (Prod.mk (c : Thread nD τ)) (csem_recv k)

theorem csem_inj : Function.Injective csem := by
  intro j j' h
  unfold csem at h
  by_cases h0 : j = 0 <;> by_cases h0' : j' = 0
  · rw [h0, h0']
  · rw [if_pos h0, if_neg h0'] at h; cases h
  · rw [if_neg h0, if_pos h0'] at h; cases h
  · rw [if_neg h0, if_neg h0'] at h; exact SemLoc.dma.inj h

theorem kcell_inj : Function.Injective kcell := by
  rintro ⟨c, j⟩ ⟨c', j'⟩ h
  have h1 : c = c' := congrArg (fun g : GSem nD τ sig => g.1.1) h
  have h2 : j = j' := csem_inj (congrArg Prod.snd h)
  rw [h1, h2]

/-- The barrier's cell, then a device's own. -/
theorem split_bar (Φ : Fin 23 → sProp 𝕄) : bigSep Finset.univ Φ = iprop(Φ jBar ∗ bigSep Finset.univ fun j : Fin 22 => Φ j.succ) := by
  rw [bigSep_univ_equiv (finSumFinEquiv (m := 1) (n := 22)), BI.bigSep_univ_sum]
  have h (j : Fin 22) : finSumFinEquiv (m := 1) (n := 22) (.inr j) = j.succ := Fin.ext (Nat.add_comm 1 j.val)
  refine congrArg₂ (fun A B => iprop(A ∗ B)) ?_ (bigSep_congr fun j _ => by rw [h])
  exact bigSep_univ_eq_bigSepL [(0 : Fin 1)] (by decide) (by decide) _

/-- A device's own cells are those of the copies, of the rows sent, of the rows received. -/
theorem split_own (Φ : Fin 23 → sProp 𝕄) : (bigSep Finset.univ fun j : Fin 22 => Φ j.succ)
    = iprop((bigSep Finset.univ fun r => Φ (jOut r)) ∗ (bigSep Finset.univ fun k => Φ (jSend k)) ∗ bigSep Finset.univ fun k => Φ (jRecv k)) := by
  rw [bigSep_univ_equiv (finSumFinEquiv (m := 16) (n := 6)), BI.bigSep_univ_sum,
    bigSep_univ_equiv (finSumFinEquiv (m := 3) (n := 3)), BI.bigSep_univ_sum]
  refine congrArg₂ (fun A B => iprop(A ∗ B)) (bigSep_congr fun r _ => ?_) (congrArg₂ (fun A B => iprop(A ∗ B)) (bigSep_congr fun k _ => ?_) (bigSep_congr fun k _ => ?_))
  · exact congrArg Φ (Fin.ext rfl)
  · exact congrArg Φ (Fin.ext (show 16 + k.val + 1 = k.val + 17 by omega))
  · exact congrArg Φ (Fin.ext (show 16 + (3 + k.val) + 1 = k.val + 20 by omega))

/-- The kernel's own semaphores as the launch numbers them. -/
abbrev osem (j : Fin 22) : SemLoc sig := csem j.succ

theorem ownSemFacts : Pipeline.OwnSemFacts cfg0.spec osem := by decide

theorem unscoped_sems : (unscopedSems0 c : sProp 𝕄) = semVal (barCell c) 0 := by
  unfold unscopedSems0; rw [bigSep_eq_bigSepL_of_eq [SemLoc.reg barS] (by decide) (by decide)]; rfl

/-- All counters of a device at zero: the kernel's own and the barrier's. -/
theorem all_sems :
    (bigSep Finset.univ fun j : Fin 23 => semVal (kcell (c, j)) 0 : sProp 𝕄)
      = iprop(unscopedSems0 c ∗ Pipeline.ownSems0 (Ix := Unit) (Name := ℕ) (U := UU) (Lvl := ℕ) (Val := Elt F) (τ := τ) osem c) := by
  rw [split_bar, unscoped_sems]
  rfl

/-! ## The launch's ghost state -/

def cells : Finset (GSem nD τ sig) := Finset.univ.map ⟨kcell, kcell_inj⟩

/-- The duties of every device: three of its barrier, one of each own cell. -/
def tokOf : Dev nD × (Fin 3 ⊕ Fin 22) → GSem nD τ sig × ℕ × Fin 3
  | (c, .inl d) => (kcell (c, jBar), 0, d)
  | (c, .inr j) => (kcell (c, j.succ), 0, 0)

theorem tokOf_inj : Function.Injective tokOf := by
  rintro ⟨c, d | j⟩ ⟨c', d' | j'⟩ h
  · have h1 := kcell_inj (congrArg Prod.fst h)
    have h2 : d = d' := congrArg (fun x => x.2.2) h
    exact Prod.ext (congrArg (fun x : Dev nD × Fin 23 => x.1) h1) (congrArg Sum.inl h2)
  · exact absurd (congrArg Prod.snd (kcell_inj (congrArg Prod.fst h))) (Fin.succ_ne_zero j').symm
  · exact absurd (congrArg Prod.snd (kcell_inj (congrArg Prod.fst h))) (Fin.succ_ne_zero j)
  · have h1 := kcell_inj (congrArg Prod.fst h)
    exact Prod.ext (congrArg (fun x : Dev nD × Fin 23 => x.1) h1) (congrArg Sum.inr (Fin.succ_injective _ (congrArg (fun x : Dev nD × Fin 23 => x.2) h1)))

def tokens : Finset (GSem nD τ sig × ℕ × Fin 3) := Finset.univ.map ⟨tokOf, tokOf_inj⟩

def u₀ : UU := (initOf (Pipeline.cells cfgs cellOf_inj) (Pipeline.launchToks cfgs cellOf_inj), initOf cells tokens)

/-- The duty tokens of a device's cells. -/
def toks (c : Dev nD) : sProp 𝕄 :=
  iprop((bigSep Finset.univ fun d : Fin 3 => dutyTok ER (barCell c) 0 d) ∗ (bigSep Finset.univ fun r => dutyTok ER (outCell c r) 0 0)
    ∗ (bigSep Finset.univ fun k => dutyTok ER (sendCell c k) 0 0) ∗ bigSep Finset.univ fun k => dutyTok ER (recvCell c k) 0 0)

/-- The duty tokens a device pays with. -/
def payToks (c : Dev nD) : sProp 𝕄 :=
  iprop((bigSep Finset.univ fun d : Fin 3 => dutyTok ER (barCell (after d c)) 0 d) ∗ (bigSep Finset.univ fun r => dutyTok ER (outCell c r) 0 0)
    ∗ (bigSep Finset.univ fun k => dutyTok ER (sendCell c k) 0 0) ∗ bigSep Finset.univ fun k => dutyTok ER (recvCell (after k c) k) 0 0)

theorem toks_eq : (bigSep Finset.univ fun t : Fin 3 ⊕ Fin 22 => dutyTok ER (tokOf (c, t)).1 (tokOf (c, t)).2.1 (tokOf (c, t)).2.2 : sProp 𝕄) = toks c := by
  rw [BI.bigSep_univ_sum]
  unfold toks
  have h := split_own (F := F) fun j => dutyTok ER (kcell (c, j)) 0 0
  simp only [kcell_out, kcell_send, kcell_recv] at h
  rw [← h]
  rfl

/-- What the launch gives a device. -/
def G (c : Dev nD) : sProp 𝕄 :=
  iprop((bigSep Finset.univ fun j : Fin 23 => roundState ER (Rd Xs) (kcell (c, j)) 0)
    ∗ (bigSep Finset.univ fun j : Fin 23 => atPos ER (kcell (c, j)) 0 ∅ 0) ∗ (bigSep Finset.univ fun j : Fin 23 => reached ER (kcell (c, j)) 0) ∗ toks c)

theorem fund_all : BI.own (ER (initOf cells tokens)) ⊢ (|==> bigSep Finset.univ (G Xs) : sProp 𝕄) := by
  have hX (Φ : GSem nD τ sig → sProp 𝕄) : bigSep cells Φ = bigSep Finset.univ fun c : Dev nD => bigSep Finset.univ fun j : Fin 23 => Φ (kcell (c, j)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => toks_eq c
  iintro HX
  imod (Rounds.fund ER (Rd Xs) cells tokens) $$ HX with ⟨Hst, Hr, Hat, Htok⟩
  imodintro
  ihave Hst := (Entails.of_eq (hX fun g => roundState ER (Rd Xs) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## The tokens dealt -/

/-- Slot by slot the ring turned: what is `c`'s goes to the device it is `k + 1` steps on from. -/
def turn : Dev nD × Fin 3 ≃ Dev nD × Fin 3 where
  toFun x := (after x.2 x.1, x.2)
  invFun x := (before x.2 x.1, x.2)
  left_inv x := Prod.ext (before_after x.2 x.1) rfl
  right_inv x := Prod.ext (after_before x.2 x.1) rfl

theorem turned (Ψ : Dev nD → Fin 3 → sProp 𝕄) :
    (bigSep Finset.univ fun c => bigSep Finset.univ fun k => Ψ c k) = bigSep Finset.univ fun c => bigSep Finset.univ fun k => Ψ (after k c) k := by
  rw [← bigSep_univ_prod fun x : Dev nD × Fin 3 => Ψ x.1 x.2, ← bigSep_univ_prod fun x : Dev nD × Fin 3 => Ψ (after x.2 x.1) x.2,
    bigSep_univ_equiv turn]
  rfl

theorem toks_dealt : (bigSep Finset.univ fun c : Dev nD => (toks c : sProp 𝕄)) ⊢ bigSep Finset.univ fun c : Dev nD => payToks c := by
  unfold toks payToks
  simp only [bigSep_sep']
  rw [turned fun c d => (dutyTok ER (barCell c) 0 d : sProp 𝕄), turned fun c k => (dutyTok ER (recvCell c k) 0 0 : sProp 𝕄)]

/-! ## The cells opened -/

/-- A device's positions and the tokens it pays with. -/
def linear (c : Dev nD) : sProp 𝕄 := iprop((bigSep Finset.univ fun j : Fin 23 => atPos ER (kcell (c, j)) 0 ∅ 0) ∗ payToks c)

/-- What a device has once every cell is open. -/
def G' (c : Dev nD) : sProp 𝕄 := iprop(∃ K, records Xs K ∗ linear c)

theorem G'_intro : iprop(records Xs K ∗ linear c) ⊢ G' Xs c := by
  unfold G'; iintro H; iexists K; iexact H

theorem core_open :
    iprop(Pipeline.ownSems0 (Ix := Unit) (Name := ℕ) (U := UU) (Lvl := ℕ) (Val := Elt F) (τ := τ) osem c ∗ unscopedSems0 c ∗ G Xs c)
      ⊢ |={Set.univ}=> iprop((bigSep Finset.univ fun j => iprop(∃ κ : ℕ, cellInv ER (Rd Xs) κ (kcell (c, j))))
          ∗ (bigSep Finset.univ fun j : Fin 23 => atPos ER (kcell (c, j)) 0 ∅ 0) ∗ (bigSep Finset.univ fun j : Fin 23 => reached ER (kcell (c, j)) 0) ∗ toks c) := by
  unfold G
  iintro ⟨Hos, Hus, Hst, Hat, Hr, Htok⟩
  ihave Hv := (Entails.of_eq (all_sems (F := F) c).symm) $$ [Hos Hus]
  · isplitl [Hus] <;> iassumption
  imod (show iprop((bigSep Finset.univ fun j : Fin 23 => semVal (kcell (c, j)) 0) ∗ bigSep Finset.univ fun j : Fin 23 => roundState ER (Rd Xs) (kcell (c, j)) 0)
      ⊢ (|={Set.univ}=> bigSep Finset.univ fun j => iprop(∃ κ : ℕ, cellInv ER (Rd Xs) κ (kcell (c, j))) : sProp 𝕄) from by
        rw [← bigSep_sep']
        exact (bigSep_mono fun j _ => (Rounds.body_intro ER (Rd Xs) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem regroup :
    (bigSep Finset.univ fun c : Dev nD => iprop((bigSep Finset.univ fun j => iprop(∃ κ : ℕ, cellInv ER (Rd Xs) κ (kcell (c, j))))
          ∗ (bigSep Finset.univ fun j : Fin 23 => atPos ER (kcell (c, j)) 0 ∅ 0) ∗ (bigSep Finset.univ fun j : Fin 23 => reached ER (kcell (c, j)) 0) ∗ toks c) : sProp 𝕄)
      ⊢ bigSep Finset.univ (G' Xs) := by
  rw [bigSep_sep', bigSep_sep', bigSep_sep', ← bigSep_univ_prod (fun x : Dev nD × Fin 23 => iprop(∃ κ : ℕ, cellInv ER (Rd Xs) κ (kcell x))),
    ← bigSep_univ_prod (fun x : Dev nD × Fin 23 => (reached ER (kcell x) 0 : sProp 𝕄))]
  iintro ⟨HI, Hat, Hr, Htok⟩
  ihave HK := (BI.bigSep_exists_pi Finset.univ (fun (x : Dev nD × Fin 23) (κ : ℕ) => (cellInv ER (Rd Xs) κ (kcell x) : sProp 𝕄))) $$ HI
  icases HK with ⟨%K, HI⟩
  ihave Htok := (toks_dealt (F := F)) $$ Htok
  ihave Hrec := (show iprop((bigSep Finset.univ fun x : Dev nD × Fin 23 => cellInv ER (Rd Xs) (K x) (kcell x)) ∗ bigSep Finset.univ fun x : Dev nD × Fin 23 => reached ER (kcell x) 0)
      ⊢ records Xs K from by unfold records; rw [bigSep_sep']) $$ [HI Hr]
  · isplitl [HI] <;> iassumption
  ihave Hrecs := (BI.bigSep_of_persistent (Finset.univ : Finset (Dev nD)) (records Xs K)) $$ Hrec
  ihave Hlin := (show iprop((bigSep Finset.univ fun c : Dev nD => bigSep Finset.univ fun j : Fin 23 => atPos ER (kcell (c, j)) 0 ∅ 0) ∗ bigSep Finset.univ fun c : Dev nD => payToks c)
      ⊢ (bigSep Finset.univ fun c : Dev nD => linear c : sProp 𝕄) from by unfold linear; rw [bigSep_sep']) $$ [Hat Htok]
  · isplitl [Hat] <;> iassumption
  ihave H := (show iprop((bigSep Finset.univ fun _ : Dev nD => records Xs K) ∗ bigSep Finset.univ fun c : Dev nD => linear c)
      ⊢ bigSep Finset.univ (G' Xs) from by
        rw [← bigSep_sep']
        exact bigSep_mono fun c _ => G'_intro K Xs c) $$ [Hrecs Hlin]
  · isplitl [Hrecs] <;> iassumption
  iexact H

/-- Every device's cells opened at once. -/
theorem glob : (bigSep Finset.univ fun c => iprop(Pipeline.ownSems0 (Ix := Unit) (Name := ℕ) (U := UU) (Lvl := ℕ) (Val := Elt F) (τ := τ) osem c ∗ unscopedSems0 c ∗ G Xs c) : sProp 𝕄)
    ⊢ |={Set.univ}=> bigSep Finset.univ (G' Xs) :=
  ((bigSep_mono fun c _ => core_open Xs c).trans (bigSep_fupd _ _)).trans (BI.fupd_mono (regroup Xs))

theorem cell_done (j : Fin 23) :
    iprop(records Xs K ∗ atPos ER (kcell (c, j)) (0 + 1) ∅ 0) ⊢ (|={Set.univ}=> semVal (kcell (c, j)) 0 : sProp 𝕄) := by
  iintro ⟨Hrec, Hat⟩
  ihave H := (records_at Xs K c j) $$ Hrec
  icases H with ⟨Hi, -⟩
  iapply (Rounds.cell_close ER (Rd Xs) (Set.mem_univ (K (c, j))) (fun h => h) (R := 0 + 1) (duties_later Xs (kcell (c, j))))
  isplitl [Hi] <;> iassumption

/-- A device's cells closed: every counter at zero. -/
theorem core_close :
    iprop(records Xs K ∗ bigSep Finset.univ fun j : Fin 23 => atPos ER (kcell (c, j)) (0 + 1) ∅ 0)
      ⊢ (|={Set.univ}=> bigSep Finset.univ fun j : Fin 23 => semVal (kcell (c, j)) 0 : sProp 𝕄) := by
  refine (sep_mono_left (BI.bigSep_of_persistent (Finset.univ : Finset (Fin 23)) (records Xs K))).trans ?_
  rw [← bigSep_sep']
  exact (bigSep_mono fun j _ => cell_done K Xs c j).trans (bigSep_fupd _ _)

/-! ## What the devices owe each other at launch -/

theorem bar_iff {a b : Dev nD} : barCell a = barCell b ↔ a = b :=
  ⟨fun h => congrArg (fun g : GSem nD τ sig => g.1.1) h, fun h => h ▸ rfl⟩
theorem recv_iff {a b : Dev nD} {i k : Fin 3} : recvCell a i = recvCell b k ↔ a = b ∧ i = k := by
  rw [← kcell_recv, ← kcell_recv]
  constructor
  · intro h
    have h1 := kcell_inj h
    refine ⟨congrArg Prod.fst h1, Fin.ext ?_⟩
    have h2 : i.val + 20 = k.val + 20 := congrArg (fun x : Dev nD × Fin 23 => x.2.val) h1
    omega
  · rintro ⟨rfl, rfl⟩; rfl
theorem bar_ne_recv {a b : Dev nD} {k : Fin 3} : barCell a ≠ recvCell b k := fun h => by cases congrArg Prod.snd h

theorem after_iff (k : Fin 3) (d c : Dev nD) : c = after k d ↔ d = before k c :=
  ⟨fun h => by rw [h, before_after], fun h => by rw [h, after_before]⟩

theorem sig_at_bar (d c : Dev nD) (k : Fin 3) : owedSig d k (barCell c) () = if d = before k c then 1 else 0 := by
  rw [tallyAt_apply]
  exact if_congr (by rw [bar_iff, after_iff]; exact and_iff_left rfl) rfl rfl
theorem sig_at_recv (d c : Dev nD) (i k : Fin 3) : owedSig d i (recvCell c k) () = 0 := by
  rw [tallyAt_apply]; exact if_neg fun h => bar_ne_recv h.1.symm
theorem row_at_bar (d c : Dev nD) (k : Fin 3) : owedRow d k (barCell c) () = 0 := by
  rw [tallyAt_apply]; exact if_neg fun h => bar_ne_recv h.1
theorem row_at_recv (d c : Dev nD) (i k : Fin 3) : owedRow d i (recvCell c k) () = if i = k then (if d = before k c then N1 else 0) else 0 := by
  rw [tallyAt_apply]
  by_cases h : i = k
  · subst h
    rw [if_pos rfl]
    exact if_congr (by rw [recv_iff, after_iff]; exact ⟨fun h => h.1.1, fun h => ⟨⟨h, rfl⟩, rfl⟩⟩) rfl rfl
  · rw [if_neg h, if_neg fun h' => h (recv_iff.mp h'.1).2.symm]

theorem O₀_apply (d : Dev nD) (g : GSem nD τ sig) : O₀ d g () = owedRow d 2 g () + owedRow d 1 g () + owedRow d 0 g () + owedSig d 2 g () + owedSig d 1 g () + owedSig d 0 g () := rfl

theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_apply, row_at_bar, sig_at_bar, Finset.sum_add_distrib, Finset.sum_ite_eq', Finset.mem_univ, if_true, Finset.sum_const_zero]
  rfl

theorem launch_recv (k : Fin 3) : tallyOn (recvCell c k) (launchCredit (Pipeline.owing O₀) 0 (recvCell c k)) = (tallyAt (recvCell c k) () N1 : CellTallies nD τ sig Unit) := by
  unfold tallyAt; refine congrArg _ (Finsupp.ext fun u => ?_); cases u
  rw [Pipeline.launchCredit_owing, Finsupp.single_eq_same]
  simp only [O₀_apply, row_at_recv, sig_at_recv, Finset.sum_add_distrib, Finset.sum_const_zero]
  fin_cases k <;> simp

/-- What a device may wait for: its barrier's three units and the credit of its three rows. -/
theorem creds :
    (Pipeline.launchCred O₀ c : sProp 𝕄) ⊢ iprop(cred (tallyAt (barCell c) () 3) ∗ bigSep Finset.univ fun k => cred (tallyAt (recvCell c k) () N1)) := by
  unfold Pipeline.launchCred
  rw [bigSep_univ_at _ (SemLoc.reg barS), launch_bar]
  refine sep_mono_right ?_
  have hinj : Function.Injective fun k : Fin 3 => (SemLoc.dma (recvS k) : SemLoc sig) := fun i k h =>
    ((recv_iff (a := c) (b := c)).mp (congrArg (Prod.mk (c : Thread nD τ)) h)).2
  have hsub : (Finset.univ : Finset (Fin 3)).map ⟨_, hinj⟩ ⊆ Finset.univ.erase (SemLoc.reg barS) := by
    intro s hs
    obtain ⟨k, -, rfl⟩ := Finset.mem_map.mp hs
    exact Finset.mem_erase.mpr ⟨fun h => (by cases h), Finset.mem_univ _⟩
  refine (BI.bigSep_subset hsub).trans ?_
  rw [bigSep_map]
  exact bigSep_mono fun k _ => Entails.of_eq (congrArg cred (launch_recv c k))

end Cert.KernelIdeal.Scan
-- ==== Proof.KernelIdeal.Deal.lean ====
/-
# What a device's body starts from and ends with

The launch's ghost state, the scratch buffers and the result's memory make what the body starts from; what the body ends
with gives the result whole, the scratch buffers and every counter at zero.
-/
module

public import proofs.«01_k».proof.Proof.KernelIdeal.Ghost

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Fin 23 → ℕ) (Xs : Dev nD → Vec F S2048x1024 .f32) (c : Dev nD)

/-- A device's positions in its cells, by kind. -/
theorem positions (n : ℕ) :
    (bigSep Finset.univ fun j : Fin 23 => atPos ER (kcell (c, j)) n ∅ 0 : sProp 𝕄)
      = iprop(atPos ER (barCell c) n ∅ 0 ∗ (bigSep Finset.univ fun r => atPos ER (outCell c r) n ∅ 0)
          ∗ (bigSep Finset.univ fun k => atPos ER (sendCell c k) n ∅ 0) ∗ bigSep Finset.univ fun k => atPos ER (recvCell c k) n ∅ 0) := by
  rw [split_bar, split_own fun j => atPos ER (kcell (c, j)) n ∅ 0]
  simp only [kcell_out, kcell_send, kcell_recv]
  rfl

/-- The scratch buffers, each at some contents. -/
def Scratch (c : Dev nD) : sProp 𝕄 :=
  iprop((∃ v, owns (c : Thread nD τ) ovM fullShare v) ∗ (∃ v, owns (c : Thread nD τ) sendM fullShare v)
    ∗ (∃ v, owns (c : Thread nD τ) commM fullShare v) ∗ ∃ v, owns (c : Thread nD τ) offM fullShare v)

theorem scratch_eq : (Pipeline.scopedRest (Ix := Unit) (Name := ℕ) (U := UU) (Lvl := ℕ) (Val := Elt F) spec0 c : sProp 𝕄) = Scratch c := by
  rw [scopedRest0_eq]
  unfold Scratch
  simp only [owns_whole]
  rfl

/-- What a device has before its body but its debts, its block and its scratch. -/
def Start (c : Dev nD) : sProp 𝕄 :=
  iprop(G' Xs c ∗ (cred (tallyAt (barCell c) () 3) ∗ bigSep Finset.univ fun k => cred (tallyAt (recvCell c k) () N1)) ∗ levAts L lv
    ∗ ∃ v, owns (c : Thread nD τ) outM fullShare v)

theorem offerings :
    iprop((bigSep Finset.univ fun d : Fin 3 => dutyTok ER (barCell (after d c)) 0 d) ∗ bigSep Finset.univ fun k : Fin 3 => iprop(∃ v, owns (c : Thread nD τ) (slotM k) fullShare v))
      ⊢ (bigSep Finset.univ (Offering c) : sProp 𝕄) := by
  rw [slots_offered, ← bigSep_sep']
  rfl

theorem routes :
    iprop((bigSep Finset.univ fun k => dutyTok ER (sendCell c k) 0 0) ∗ (bigSep Finset.univ fun k => dutyTok ER (recvCell (after k c) k) 0 0)
        ∗ bigSep Finset.univ fun k => atPos ER (sendCell c k) 0 ∅ 0)
      ⊢ (bigSep Finset.univ (Route c) : sProp 𝕄) := by
  rw [← bigSep_sep', ← bigSep_sep']
  rfl

theorem awaiteds :
    iprop((bigSep Finset.univ fun k => cred (tallyAt (recvCell c k) () N1)) ∗ bigSep Finset.univ fun k => atPos ER (recvCell c k) 0 ∅ 0)
      ⊢ (bigSep Finset.univ (Awaited c) : sProp 𝕄) := by
  rw [← bigSep_sep']
  rfl

theorem targets :
    iprop((bigSep Finset.univ fun r : Fin 16 => iprop(∃ v, owns (c : Thread nD τ) (outM.slice (chunk r) (fun _ => rfl)) fullShare v))
        ∗ (bigSep Finset.univ fun r => dutyTok ER (outCell c r) 0 0) ∗ bigSep Finset.univ fun r => atPos ER (outCell c r) 0 ∅ 0)
      ⊢ (bigSep Finset.univ (Target c) : sProp 𝕄) := by
  rw [← bigSep_sep', ← bigSep_sep']
  rfl

theorem fresh_eq :
    (bigSep Finset.univ fun r : Fin 16 => iprop(∃ v, owns (c : Thread nD τ) (ovM.slice (chunk r) (fun _ => rfl)) fullShare v)) ⊢ (bigSep Finset.univ (Fresh c) : sProp 𝕄) := by
  unfold Fresh
  exact Entails.refl _

/-- A device's holdings at launch are what its body starts from. -/
theorem before_intro :
    iprop(Start Xs c ∗ Scratch c ∗ owing c (O₀ c) ∗ owns (c : Thread nD τ) xM fullShare (Xs c)) ⊢ iprop(∃ K, Before K Xs c) := by
  unfold Start Scratch G' linear payToks
  rw [positions]
  iintro ⟨⟨⟨%K, #Hrec, ⟨Hpb, Hpo, Hps, Hpr⟩, Htb, Hto, Hts, Htr⟩, ⟨Hcb, Hcr⟩, Hlev, ⟨%vo, Hout⟩⟩, ⟨⟨%v0, Hov⟩, Hsend, ⟨%v2, Hcomm⟩, Hoff⟩, Ho, Hx⟩
  iexists K
  unfold Before
  isplitr; · iexact Hrec
  isplitl [Hlev]; · iexact Hlev
  isplitl [Ho]; · iexact Ho
  isplitl [Htb Hcomm]
  · iapply (offerings c)
    isplitl [Htb]; · iexact Htb
    iapply (slots_split c v2) $$ Hcomm
  isplitl [Hx]; · iexact Hx
  isplitl [Hsend]; · iexact Hsend
  isplitl [Hcb]; · iexact Hcb
  isplitl [Hpb]; · iexact Hpb
  isplitl [Hts Htr Hps]
  · iapply (routes c)
    isplitl [Hts]; · iexact Hts
    isplitl [Htr] <;> iassumption
  isplitl [Hov]
  · iapply (fresh_eq c)
    iapply (chunks_split c ovM v0) $$ Hov
  isplitl [Hcr Hpr]
  · iapply (awaiteds c)
    isplitl [Hcr] <;> iassumption
  isplitl [Hoff]; · iexact Hoff
  iapply (targets c)
  isplitl [Hout]
  · iapply (chunks_split c outM vo) $$ Hout
  isplitl [Hto] <;> iassumption

theorem arriveds :
    (bigSep Finset.univ (Arrived Xs c) : sProp 𝕄)
      ⊢ iprop((bigSep Finset.univ fun k : Fin 3 => iprop(∃ v, owns (c : Thread nD τ) (slotM k) fullShare v)) ∗ bigSep Finset.univ fun k => atPos ER (recvCell c k) (0 + 1) ∅ 0) := by
  unfold Arrived
  rw [bigSep_sep']
  exact sep_mono_left (bigSep_mono fun k _ => owns_some c _ _ _)

theorem sents :
    (bigSep Finset.univ (Sent Xs c) : sProp 𝕄)
      ⊢ iprop(owns (c : Thread nD τ) sendM fullShare (tot (Xs c)) ∗ bigSep Finset.univ fun k => atPos ER (sendCell c k) (0 + 1) ∅ 0) := by
  unfold Sent
  rw [bigSep_sep']
  exact sep_mono_left (shares_join c (tot (Xs c)))

theorem landeds :
    (bigSep Finset.univ (Landed Xs c) : sProp 𝕄)
      ⊢ iprop((owns (c : Thread nD τ) ovM fullShare (outAll Xs c) ∗ owns (c : Thread nD τ) outM fullShare (outAll Xs c)) ∗ bigSep Finset.univ fun r => atPos ER (outCell c r) (0 + 1) ∅ 0) := by
  unfold Landed outPay
  rw [bigSep_sep', bigSep_sep']
  exact sep_mono_left (BI.sep_mono (chunks_join Xs c ovM) (chunks_join Xs c outM))

/-- What a device has after its body but its debts, its block and its scratch: the result whole, all counters at zero. -/
def Done (c : Dev nD) : sProp 𝕄 :=
  iprop(owns (c : Thread nD τ) outM fullShare (outAll Xs c) ∗ bigSep Finset.univ fun j : Fin 23 => semVal (kcell (c, j)) 0)

/-- What the body ends with, closed. -/
theorem after_elim :
    After K Xs c ⊢ |={Set.univ}=> iprop((Done Xs c ∗ Scratch c) ∗ owing c 0 ∗ owns (c : Thread nD τ) xM fullShare (Xs c)) := by
  unfold After Done Scratch
  iintro ⟨Hrec, Ho, Hx, Hoff, Hpb, Ha, Hs, Hl⟩
  ihave Ha := (arriveds Xs c) $$ Ha
  icases Ha with ⟨Hslots, Hpr⟩
  ihave Hs := (sents Xs c) $$ Hs
  icases Hs with ⟨Hsend, Hps⟩
  ihave Hl := (landeds Xs c) $$ Hl
  icases Hl with ⟨⟨Hov, Hout⟩, Hpo⟩
  ihave Hpos := (Entails.of_eq (positions (F := F) c (0 + 1)).symm) $$ [Hpb Hpo Hps Hpr]
  · isplitl [Hpb]; · iexact Hpb
    isplitl [Hpo]; · iexact Hpo
    isplitl [Hps] <;> iassumption
  imod (core_close K Xs c) $$ [Hrec Hpos] with Hz
  · isplitl [Hrec] <;> iassumption
  imodintro
  isplitr [Ho Hx]
  · isplitl [Hout Hz]
    · isplitl [Hout] <;> iassumption
    isplitl [Hov]; · iexists (outAll Xs c); iexact Hov
    isplitl [Hsend]; · iexists (tot (Xs c)); iexact Hsend
    isplitl [Hslots]
    · iapply (slots_join c) $$ Hslots
    iexists (offs Xs c 3); iexact Hoff
  isplitl [Ho] <;> iassumption

end Cert.KernelIdeal.Scan
-- ==== Proof.KernelIdeal.Launch.lean ====
/-
# The run of the whole program

The launch of the one region on the four devices: its proof data, its body's obligation, and what every run ends in.
-/
module

public import proofs.«01_k».proof.Proof.KernelIdeal.Deal
public import proofs.«01_k».proof.Proof.Gen.KernelIdeal.Points
public import Idealize.ShloMosaic.Lib.Pipeline.Launch
public import Idealize.ShloMosaic.Lib.Pipeline.CollectiveSegs

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- Device `c`'s block of the input as its window stages it. -/
def xs (c : Dev nD) : Vec F S2048x1024 .f32 := (win0_0.blk t0_0).view.read (Elt F) (m ((c : Thread nD τ).loc main_arg0))

/-- The pipeline's proof data: the block is staged and left in place; the body pays all that the device owes. -/
def dats (_ : Fin 1) (c : Dev nD) : Dat τ (Elt F) Unit ℕ UU ℕ cfg0 c where
  A w := m ((cfg0.win w).arr.view.loc (c : Thread nD τ))
  after w _ := match w with
    | ⟨0, _⟩ => xs m c
  Φ t := match t with
    | ⟨0, _⟩ => iprop(Start (xs m) c ∗ Scratch c)
    | ⟨_ + 1, _⟩ => iprop(Done (xs m) c ∗ Scratch c)
  q _ := fullShare
  owed t := match t with
    | ⟨0, _⟩ => O₀ c
    | ⟨_ + 1, _⟩ => 0

theorem share_full (w : Fin cfg0.W) : (dats m 0 c).share w = fullShare := by unfold Dat.share; split <;> rfl

/-- What the body is given at its point. -/
def atEntry (c : Dev nD) : sProp 𝕄 :=
  iprop((Start (xs m) c ∗ Scratch c) ∗ (dats m 0 c).owesAt () t0_0.castSucc ∗ ∃ d, owns (c : Thread nD τ) xM fullShare ((dats m 0 c).before (0 : Fin 1) t0_0 d))
/-- What it is to leave. -/
def atExit (c : Dev nD) : sProp 𝕄 :=
  iprop((Done (xs m) c ∗ Scratch c) ∗ (dats m 0 c).owesAt () t0_0.succ ∗ owns (c : Thread nD τ) xM fullShare (xs m c))

theorem staged (d) : (dats m 0 c).before (0 : Fin 1) t0_0 d = xs m c := by
  unfold Dat.before
  rw [if_pos (fetch0_0 _)]
  rfl

theorem atExit_intro :
    iprop((Done (xs m) c ∗ Scratch c) ∗ owing c 0 ∗ owns (c : Thread nD τ) xM fullShare (xs m c)) ⊢ atExit m c := by
  unfold atExit owing
  iintro ⟨Hd, ⟨%W, Ho⟩, Hx⟩
  isplitl [Hd]; · iexact Hd
  isplitl [Ho]
  · unfold Dat.owesAt Pipeline.owesWithin
    iexists W
    isplitr; · (ipureintro; exact fun _ _ => Or.inl trivial)
    iexact Ho
  iexact Hx

/-- A last ghost step may follow a program's end. -/
theorem closing {α : Type} {p : Prog (TpuEff nD τ sig (Elt F) Λ₀ .tc) α} {P : sProp 𝕄} {Q : α → sProp 𝕄}
    (h : P ⊢ run c p fun a => iprop(|={Set.univ}=> Q a)) : P ⊢ run c p Q := BI.Entails.trans h (wp_fupd _ _ _ _ _)

/-- The body, from its holdings at the point to those it leaves. -/
theorem body_point :
    atEntry m c ⊢ run c (cc0_body (F := F) xM (hstage0_0 0) outM (Memref.isWhole_whole _) ovM (Memref.isWhole_whole _) sendM (Memref.isWhole_whole _)
      commM (Memref.isWhole_whole _) offM (Memref.isWhole_whole _) cc0_scratch4 cc0_scratch5 cc0_scratch6) (fun _ => atExit m c) := by
  refine closing c ?_
  unfold atEntry
  iintro ⟨⟨Hst, Hscr⟩, Ho, ⟨%d, Hx⟩⟩
  ihave Hx := (Entails.of_eq (show (owns (c : Thread nD τ) xM fullShare ((dats m 0 c).before (0 : Fin 1) t0_0 d) : sProp 𝕄)
    = owns (c : Thread nD τ) xM fullShare (xs m c) from by rw [staged])) $$ Hx
  unfold Dat.owesAt Pipeline.owesWithin
  icases Ho with ⟨%W, %hW, Ho⟩
  ihave H := (before_intro (xs m) c) $$ [Hst Hscr Ho Hx]
  · isplitl [Hst]; · iexact Hst
    isplitl [Hscr]; · iexact Hscr
    isplitl [Ho]
    · unfold owing; iexists W; iexact Ho
    iexact Hx
  icases H with ⟨%K, H⟩
  iapply (body_ok K (xs m) c) $$ H
  iintro H
  imod (after_elim K (xs m) c) $$ H with H
  imodintro
  iapply (atExit_intro m c) $$ H

set_option maxHeartbeats 1000000 in
set_option maxRecDepth 4000 in
theorem obligation (c : Dev nD) : BodyObligation (dats (F := F) m 0 c) (defs₀ (F := F)) 𝒱₀ () Set.univ := fun t => by
  rw [fin_N0 t]
  rw [bigSep_W0, bigSep_W0]
  have hb : (defs₀ (F := F) .tc cfg0.body (cfg0.bodyArgs t0_0 (cfg0.slots t0_0)) : Prog (TpuEff nD τ sig (Elt F) Λ₀ .tc) PUnit)
      = cc0_body (F := F) xM (hstage0_0 0) outM (Memref.isWhole_whole _) ovM (Memref.isWhole_whole _) sendM (Memref.isWhole_whole _)
      commM (Memref.isWhole_whole _) offM (Memref.isWhole_whole _) cc0_scratch4 cc0_scratch5 cc0_scratch6 := by
    rfl
  rw [hb]
  dsimp only
  rw [show (dats m 0 c).Φ t0_0.castSucc = iprop(Start (xs m) c ∗ Scratch c) from rfl,
    show (dats m 0 c).Φ t0_0.succ = iprop(Done (xs m) c ∗ Scratch c) from rfl]
  have h := body_point m c
  unfold atEntry atExit at h
  exact h

/-! ## The launch's conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop(Start (xs m) c ∗ emp) := by
  iintro ⟨Hout, Hlev, Hcr, -, HG⟩
  ihave Hc := (creds (F := F) c) $$ Hcr
  ihave Hout := (Entails.of_eq (Pipeline.unscopedRestP_none cfg0.spec c (fun b => m ((c : Thread nD τ).loc b)))) $$ Hout
  ihave Hout := (Entails.of_eq (unscopedRest0_eq c (fun b => m ((c : Thread nD τ).loc b)))) $$ Hout
  imodintro
  unfold Start
  isplitl
  · isplitl [HG]; · iexact HG
    isplitl [Hc]; · iexact Hc
    isplitl [Hlev]; · iexact Hlev
    iexists (m ((c : Thread nD τ).loc main_v1))
    rw [owns_whole]
    iexact Hout
  · iempintro

theorem entry_intro :
    iprop(Start (xs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start (xs m) c ∗ Scratch c) from rfl, scratch_eq]
  iintro ⟨Hs, -, Hr⟩
  isplitl [Hs] <;> iassumption

/-- What is read at the end: the barrier's counter and the result. -/
def Final (c : Dev nD) : sProp 𝕄 := iprop(unscopedSems0 c ∗ ((c : Thread nD τ).loc main_v1) ↦{fullShare} outAll (xs m) c)

theorem exit_elim :
    (dats m 0 c).Φ (Fin.last cfg0.N) ⊢ iprop(Final m c ∗ Pipeline.ownSems0 osem c ∗ Pipeline.scopedRest cfg0.spec c) := by
  rw [show (dats m 0 c).Φ (Fin.last cfg0.N) = iprop(Done (xs m) c ∗ Scratch c) from rfl, scratch_eq]
  unfold Done Final
  rw [all_sems, owns_whole]
  iintro ⟨⟨Hout, Hus, Hos⟩, Hscr⟩
  isplitl [Hout Hus]
  · isplitl [Hus] <;> iassumption
  isplitl [Hos] <;> iassumption

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The counters no region holds and the result read off the final state. -/
def Read (c : Dev nD) (s : MemSt nD τ sig (Elt F)) : Prop :=
  (∀ sm : SemLoc sig, sm.isScoped .tc = false → s.sem ((c.tc : Thread nD τ), sm) = 0) ∧ s.mem ((c : Thread nD τ).loc main_v1) = outAll (xs m) c

theorem final_read (s' : Phys nD τ sig (Elt F)) : iprop(Final m c ∗ emp ∗ SI s') ⊢ (|={Set.univ}=> iprop(⌜Read m c s'.mem⌝ ∗ SI s') : sProp 𝕄) := by
  unfold Final
  iintro ⟨⟨Hus, Hout⟩, -, HSI⟩
  ihave #Hr := (SI_pointsTo_agree (st := s')) $$ [HSI Hout]
  · isplitl [HSI] <;> iassumption
  icases Hr with %hr
  imod (Pipeline.unscopedSems0_read (X := unscopedSems0 c) (c := c) fupd_intro s') $$ [Hus HSI] with ⟨%h, HSI⟩
  · isplitl [Hus] <;> iassumption
  imodintro
  isplitr
  · ipureintro; exact ⟨h, funext fun i => hr i (Finset.mem_univ i)⟩
  iexact HSI

/-- What a run ends in: the result array at the computed contents, the argument as it was, every counter at zero. -/
def Ends (r : PUnit × MemSt nD τ sig (Elt F)) : Prop :=
  (∀ c : Dev nD, r.2.mem ((c : Thread nD τ).loc main_v1) = outAll (xs m) c ∧ r.2.mem ((c : Thread nD τ).loc main_arg0) = m ((c : Thread nD τ).loc main_arg0))
    ∧ r.2.sem = fun _ => 0

set_option maxRecDepth 8000 in
/-- From any memory with zero counters every weakly fair execution on the four devices ends, and ends as `Ends` says. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (xs m)) (G' := G' (xs m)) (u₀ := u₀)
    (hu₀ := by
      unfold u₀
      iintro Hu
      ihave H := (ownU_pair _ _) $$ Hu
      icases H with ⟨HP, HX⟩
      imod (fund_all (xs m)) $$ HX with HG
      imodintro
      isplitl [HP] <;> iassumption)
    (hglob := glob (xs m))
    (hA := fun _ _ => rfl) (hpf := fun _ k => k.elim0)
    (X := Start (xs m)) (Y := Final m) (Z := fun _ => iprop(emp))
    (hX := start_intro m ρ) (hin := entry_intro m) (hout := exit_elim m)
    (QY := Read m) (hY := final_read m)
    (hQ := fun _ h hs => ⟨fun c => ⟨(h c).2.2.2, ((h c).1 0).trans ((dats m 0 c).arrAt_in (0 : Fin 1) rfl _)⟩, sem_eq_zero hs fun c => (h c).2.2.1⟩)

end Cert.KernelIdeal.Scan
-- ==== Proof.RunningSum.lean ====
/-
# Running sums of a column, and the reference as one

A column of an array is read as a function of the row number, zero past the last row; a running sum is its sum
over the rows below a bound. The reference's window of 8192 rows, padded with zeros above the array, is one.
-/
module

public import proofs.«01_k».proof.Proof.Gen.ReferenceIdeal
public import Idealize.ShloMosaic.Lib.Pointwise

@[expose] public section

noncomputable section

namespace Cert.RunningSum

open Idealize.ShloMosaic

/-- Column `j` of an array of 1024 columns by row number, zero past the last row. -/
def col {R : ℕ} (X : (⟨2, ![R, 1024]⟩ : Shape).Idx → EReal) (j : Fin 1024) (k : ℕ) : EReal :=
  if h : k < R then X (ix2 ⟨k, h⟩ j) else 0

theorem col_of_lt {R : ℕ} (X : (⟨2, ![R, 1024]⟩ : Shape).Idx → EReal) (j : Fin 1024) {k : ℕ} (h : k < R) :
    col X j k = X (ix2 ⟨k, h⟩ j) := dif_pos h

/-- The sum of a whole column. -/
theorem sum_col {R : ℕ} (X : (⟨2, ![R, 1024]⟩ : Shape).Idx → EReal) (j : Fin 1024) :
    ∑ q : Fin R, X (ix2 q j) = ∑ k ∈ Finset.range R, col X j k := by
  rw [← Fin.sum_univ_eq_sum_range]
  exact Finset.sum_congr rfl fun q _ => (col_of_lt X j q.isLt).symm

/-- A row of the lower triangle of ones picks the running sum up to and including that row. -/
theorem sum_lower {R : ℕ} (X : (⟨2, ![R, 1024]⟩ : Shape).Idx → EReal) (j : Fin 1024) (p : Fin R) :
    ∑ q : Fin R, (if q.val ≤ p.val then (1 : EReal) else 0) * X (ix2 q j) = ∑ k ∈ Finset.range (p.val + 1), col X j k := by
  have h1 : ∀ q : Fin R, (if q.val ≤ p.val then (1 : EReal) else 0) * X (ix2 q j)
      = (fun k => if k < p.val + 1 then col X j k else 0) q.val := by
    intro q
    by_cases h : q.val ≤ p.val
    · simp only [if_pos h, if_pos (Nat.lt_succ_of_le h), one_mul, col_of_lt X j q.isLt]
    · simp only [if_neg h, if_neg (fun h' => h (Nat.le_of_lt_succ h')), zero_mul]
  rw [Finset.sum_congr rfl fun q _ => h1 q,
    Fin.sum_univ_eq_sum_range (fun k => if k < p.val + 1 then col X j k else 0) R, ← Finset.sum_filter]
  refine Finset.sum_congr ?_ fun _ _ => rfl
  ext k
  have := p.isLt
  simp only [Finset.mem_filter, Finset.mem_range]
  omega

/-- A running sum in two parts: the rows below a bound, and the rows from there on counted from it. -/
theorem sum_after (f g : ℕ → EReal) (a n : ℕ) (h : ∀ k < n, f (a + k) = g k) :
    ∑ k ∈ Finset.range (a + n), f k = ∑ k ∈ Finset.range a, f k + ∑ k ∈ Finset.range n, g k := by
  rw [Finset.sum_range_add]
  exact congrArg _ (Finset.sum_congr rfl fun k hk => h k (Finset.mem_range.mp hk))

/-- A fold of additions is the start plus the sum. -/
theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window sum at a position: the start, and for each position of the window the element there or the start. -/
theorem window_sum {s t : Shape} (window strides lo hi : Fin s.rank → ℕ) (h : s.ReduceWindows window strides lo hi t)
    (x : s.Idx → EReal) (v : EReal) (j : t.Idx) :
    Ideal.hostReduceWindowAdd window strides lo hi h x v j
      = v + ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else v) := by
  unfold Ideal.hostReduceWindowAdd Host.reduceWindow
  dsimp only
  rw [foldl_add, ← List.ofFn_eq_map, List.sum_ofFn, ← Equiv.sum_comp (Shape.rowMajor ⟨s.rank, window⟩)]
  simp only [Equiv.symm_apply_apply]

/-- A window over a column that ends at row `i`, with zeros where it starts above the column. -/
theorem sum_window (f : ℕ → EReal) (n i : ℕ) (hi : i < n) :
    ∑ w ∈ Finset.range n, (if n - 1 ≤ i + w then f (i + w - (n - 1)) else 0) = ∑ k ∈ Finset.range (i + 1), f k := by
  rw [show n = (n - 1 - i) + (i + 1) by omega, Finset.sum_range_add, Finset.sum_eq_zero, zero_add]
  · refine Finset.sum_congr rfl fun k _ => ?_
    rw [if_pos (by omega)]
    exact congrArg f (by omega)
  · intro w hw
    have := Finset.mem_range.mp hw
    rw [if_neg (by omega)]

/-- The reference's term at a position: the column's sum over the rows up to and including it. -/
theorem window_apply (A : FVec Ideal ReferenceIdeal.S8192x1024 .f32) (z : FVec Ideal ReferenceIdeal.S_ .f32) (hz : ∀ i, z i = (0 : EReal))
    (h : ReferenceIdeal.S8192x1024.ReduceWindows ![8192, 1] ![1, 1] ![8191, 0] ![0, 0] ReferenceIdeal.S8192x1024)
    (hu : 0 < ReferenceIdeal.S_.numel) (i : Fin 8192) (j : Fin 1024) :
    Host.reduceWindowAdd ![8192, 1] ![1, 1] ![8191, 0] ![0, 0] A z h hu (ix2 i j)
      = ∑ k ∈ Finset.range (i.val + 1), col (R := 8192) A j k := by
  have hi := i.isLt
  unfold Host.reduceWindowAdd
  rw [Ideal.hostReduceWindowAdd_def, window_sum, hz, zero_add, ← sum_window (col (R := 8192) A j) 8192 i.val i.isLt,
    ← Fin.sum_univ_eq_sum_range (fun w => if 8192 - 1 ≤ i.val + w then col (R := 8192) A j (i.val + w - (8192 - 1)) else 0) 8192]
  refine (sum_idx2 _).trans (Finset.sum_congr rfl fun w _ => ?_)
  have hw := w.isLt
  rw [Fin.sum_univ_one]
  by_cases hle : 8192 - 1 ≤ i.val + w.val
  · rw [if_pos hle, col_of_lt (R := 8192) A j (show i.val + w.val - (8192 - 1) < 8192 by omega), dif_pos]
    · refine congrArg A ?_
      funext a
      match a with
      | ⟨0, _⟩ => exact Fin.ext (show i.val * 1 + w.val - 8191 = i.val + w.val - (8192 - 1) by omega)
      | ⟨1, _⟩ => exact Fin.ext (show j.val * 1 + 0 - 0 = j.val by omega)
    · intro a
      have hj := j.isLt
      match a with
      | ⟨0, _⟩ => exact (show 8191 ≤ i.val * 1 + w.val ∧ i.val * 1 + w.val - 8191 < 8192 by omega)
      | ⟨1, _⟩ => exact (show 0 ≤ j.val * 1 + 0 ∧ j.val * 1 + 0 - 0 < 1024 by omega)
  · rw [if_neg hle, dif_neg]
    intro hin
    have h0 : 8191 ≤ i.val * 1 + w.val := (hin 0).1
    omega

end Cert.RunningSum
end
-- ==== Proof.KernelIdeal.Value.lean ====
/-
# What the ring of four devices computes, in exact arithmetic

Each device's running sums, its column totals and its sum of the other devices' totals are running sums of
the columns; so a device's result is the running sum of the whole array's columns at its own rows.
-/
module

public import proofs.«01_k».proof.Proof.KernelIdeal.Contents
public import proofs.«01_k».proof.Proof.RunningSum
public import Idealize.ShloMosaic.Lib.Pointwise
public import Idealize.ShloMosaic.Lib.WordCmp
public import Idealize.ShloMosaic.Lib.Layout

@[expose] public section

noncomputable section

namespace Cert.KernelIdeal.Scan

open Cert.KernelIdeal Cert.KernelIdeal.Gen
open Cert.RunningSum (col col_of_lt sum_col sum_lower sum_after)
open Idealize.ShloMosaic

/-! ## The kernel's operations at a position -/

/-- The comparison of row and column numbers is the lower triangle of ones. -/
theorem lower_apply (p q : Fin 128) : (k0_pay2 (F := Ideal)) (ix2 p q) = if q.val ≤ p.val then (1 : EReal) else 0 := by
  unfold k0_pay2
  pointwise
  have hp := p.isLt
  have hq := q.isLt
  by_cases h : q.val ≤ p.val
  · rw [(WordCmp.cmpi_sle_ofNat_eq_one_iff (by omega) (by omega)).mpr h, if_pos h]
    show (((1 : ℤ) : ℝ) : EReal) = 1
    norm_num
  · rw [(WordCmp.cmpi_sle_ofNat_eq_zero_iff (by omega) (by omega)).mpr (by omega), if_neg h]
    show (((0 : ℤ) : ℝ) : EReal) = 0
    norm_num

theorem step_apply (t : FVec Ideal S128x128 .f32) (v : FVec Ideal S1x1024 .f32) (x : Vec Ideal S128x1024 .f32) (p : Fin 128) (j : Fin 1024) :
    k0_pay4 (F := Ideal) t v x (ix2 p j) = (∑ q : Fin 128, t (ix2 p q) * x (ix2 q j)) + v (ix2 0 j) := by
  unfold k0_pay4
  pointwise

theorem store_apply (t : FVec Ideal S128x128 .f32) (v : FVec Ideal S1x1024 .f32) (x : Vec Ideal S128x1024 .f32) (p : Fin 128) (j : Fin 1024) :
    k0_pay5 (F := Ideal) t v x (ix2 p j) = (∑ q : Fin 128, t (ix2 p q) * x (ix2 q j)) + v (ix2 0 j) := by
  unfold k0_pay5
  pointwise
  exact step_apply t v x p j

theorem zero_apply (j : Fin 1024) : k0_pay3 (F := Ideal) (ix2 0 j) = (0 : EReal) := by
  unfold k0_pay3
  pointwise

theorem start_apply (j : Fin 1024) : k0_pay38 (F := Ideal) (Scalar.ofBits .f32 0) (ix2 0 j) = (0 : EReal) := by
  unfold k0_pay38
  pointwise
  exact Ideal.ofBits_zero_f32

theorem last_apply (t : FVec Ideal S128x1024 .f32) (j : Fin 1024) :
    extractStridedSlice S1x1024 ![127, 0] t slices_S128x1024_o127_0_S1x1024 (ix2 0 j) = t (ix2 127 j) := by
  pointwise

theorem lifted_apply (t : FVec Ideal S1x1024 .f32) (j : Fin 1024) : lifted (F := Ideal) t (ix3 0 0 j) = t (ix2 0 j) := by
  unfold lifted
  rw [Shape.reshapeEquiv_symm]
  pointwise

theorem add_apply (o : FVec Ideal S1x1024 .f32) (t : Vec Ideal S1x1x1024 .f32) (j : Fin 1024) :
    k0_pay39 (F := Ideal) o t (ix2 0 j) = o (ix2 0 j) + t (ix3 0 0 j) := by
  unfold k0_pay39
  pointwise

theorem fin_apply (o : FVec Ideal S1x1024 .f32) (t : FVec Ideal S128x1024 .f32) (p : Fin 128) (j : Fin 1024) :
    k0_pay42 (F := Ideal) o t (ix2 p j) = t (ix2 p j) + o (ix2 0 j) := by
  unfold k0_pay42
  pointwise

/-! ## One device -/

/-- A chunk's rows are the block's. -/
theorem col_xblk (X : Vec Ideal S2048x1024 .f32) (r : Fin 16) (j : Fin 1024) (k : ℕ) (hk : k < 128) :
    col X j (128 * r.val + k) = col (R := 128) (xblk X r) j k := by
  have hr := r.isLt
  rw [col_of_lt X j (show 128 * r.val + k < 2048 by omega), col_of_lt (R := 128) _ j hk]
  have he : (chunk r).emb (ix2 (⟨k, hk⟩ : Fin 128) j) = ix2 (⟨128 * r.val + k, by omega⟩ : Fin 2048) j := by
    funext a
    match a with
    | ⟨0, _⟩ => exact Fin.ext (show 128 * r.val + 1 * k = 128 * r.val + k by omega)
    | ⟨1, _⟩ => exact Fin.ext (show 0 + 1 * j.val = j.val by omega)
  exact (congrArg X he).symm

/-- The rows before a chunk and the rows of the chunk up to `p`. -/
theorem chunk_sum (X : Vec Ideal S2048x1024 .f32) (r : Fin 16) (j : Fin 1024) (p : Fin 128) :
    (∑ q : Fin 128, (k0_pay2 (F := Ideal)) (ix2 p q) * xblk X r (ix2 q j)) + ∑ k ∈ Finset.range (128 * r.val), col X j k
      = ∑ k ∈ Finset.range (128 * r.val + (p.val + 1)), col X j k := by
  have hp := p.isLt
  rw [sum_after (col X j) (col (R := 128) (xblk X r) j) (128 * r.val) (p.val + 1) (fun k hk => col_xblk X r j k (by omega)), add_comm,
    ← sum_lower (R := 128) (xblk X r) j p]
  simp only [lower_apply]

/-- The row a chunk starts from is the sum of the rows before it. -/
theorem carry_apply (X : Vec Ideal S2048x1024 .f32) (j : Fin 1024) :
    ∀ n : ℕ, n ≤ 16 → carry X n (ix2 0 j) = ∑ k ∈ Finset.range (128 * n), col X j k
  | 0, _ => zero_apply j
  | n + 1, hn => by
    have hv : (Fin.ofNat 16 n).val = n := Nat.mod_eq_of_lt (by omega)
    have h := chunk_sum X (Fin.ofNat 16 n) j 127
    rw [hv] at h
    show extractStridedSlice S1x1024 ![127, 0] (k0_pay4 (k0_pay2 (F := Ideal)) (carry X n) (xblk X (Fin.ofNat 16 n)))
      slices_S128x1024_o127_0_S1x1024 (ix2 0 j) = _
    rw [last_apply, step_apply, carry_apply X j n (by omega), h]
    exact congrArg (fun m => ∑ k ∈ Finset.range m, col X j k) (show 128 * n + (127 + 1) = 128 * (n + 1) by omega)

theorem loc_apply (X : Vec Ideal S2048x1024 .f32) (r : Fin 16) (p : Fin 128) (j : Fin 1024) :
    loc X r (ix2 p j) = ∑ k ∈ Finset.range (128 * r.val + (p.val + 1)), col X j k := by
  unfold loc
  rw [store_apply, carry_apply X j r.val (by omega), chunk_sum]

theorem tot_apply (X : Vec Ideal S2048x1024 .f32) (j : Fin 1024) :
    tot X (ix2 0 j) = ∑ k ∈ Finset.range 2048, col X j k := by
  rw [← sum_col (R := 2048) X j]
  unfold tot k0_pay1
  pointwise

/-! ## The whole ring -/

/-- The block of 2048 rows device `c` holds of the whole array. -/
abbrev part (A : FVec Ideal ⟨2, ![8192, 1024]⟩ .f32) (c : Dev nD) : Vec Ideal S2048x1024 .f32 :=
  Layout.block ⟨2, ![2048, 1024]⟩ ⟨2, ![8192, 1024]⟩ 0 4 c A

theorem col_part (A : FVec Ideal ⟨2, ![8192, 1024]⟩ .f32) (c : Dev nD) (j : Fin 1024) (k : ℕ) (hk : k < 2048) :
    col (R := 8192) A j (2048 * c.val + k) = col (R := 2048) (part A c) j k := by
  have hc : c.val < 4 := c.isLt
  rw [col_of_lt (R := 8192) A j (show 2048 * c.val + k < 8192 by omega), col_of_lt (R := 2048) _ j hk]
  show A _ = A _
  refine congrArg A ?_
  funext a
  match a with
  | ⟨0, _⟩ => exact Fin.ext (show 2048 * c.val + k = c.val * 2048 + k by omega)
  | ⟨1, _⟩ => rfl

/-- The rows before device `c` and the first `n` rows of its block. -/
theorem part_sum (A : FVec Ideal ⟨2, ![8192, 1024]⟩ .f32) (c : Dev nD) (j : Fin 1024) (n : ℕ) (hn : n ≤ 2048) :
    ∑ k ∈ Finset.range (2048 * c.val + n), col (R := 8192) A j k
      = ∑ k ∈ Finset.range (2048 * c.val), col (R := 8192) A j k + ∑ k ∈ Finset.range n, col (R := 2048) (part A c) j k :=
  sum_after _ _ _ _ fun k hk => col_part A c j k (by omega)

/-- After `n` slots a device has added up the rows of the `n` devices before it, of those there are. -/
theorem offs_apply (A : FVec Ideal ⟨2, ![8192, 1024]⟩ .f32) (c : Dev nD) (j : Fin 1024) :
    ∀ n : ℕ, n ≤ 3 → offs (part A) c n (ix2 0 j) + ∑ k ∈ Finset.range (2048 * (c.val - n)), col (R := 8192) A j k
      = ∑ k ∈ Finset.range (2048 * c.val), col (R := 8192) A j k
  | 0, _ => by
    show k0_pay38 (F := Ideal) (Scalar.ofBits .f32 0) (ix2 0 j) + _ = _
    rw [start_apply, zero_add, Nat.sub_zero]
  | n + 1, hn => by
    have ih := offs_apply A c j n (by omega)
    have hc : c.val < 4 := c.isLt
    by_cases h : n + 1 ≤ c.val
    · have hb : (before (Fin.ofNat 3 n) c).val = c.val - (n + 1) := by
        have hv : (Fin.ofNat 3 n).val = n := Nat.mod_eq_of_lt (by omega)
        show (c.val + (3 - (Fin.ofNat 3 n).val)) % 4 = _
        rw [hv]
        omega
      have hs := part_sum A (before (Fin.ofNat 3 n) c) j 2048 le_rfl
      rw [hb, show 2048 * (c.val - (n + 1)) + 2048 = 2048 * (c.val - n) by omega] at hs
      rw [hs] at ih
      show (if n + 1 ≤ c.val then k0_pay39 (offs (part A) c n) (lifted (tot (part A (before (Fin.ofNat 3 n) c)))) else offs (part A) c n) (ix2 0 j) + _ = _
      rw [if_pos h, add_apply, lifted_apply, tot_apply, ← ih, add_assoc]
      exact congrArg _ (add_comm _ _)
    · show (if n + 1 ≤ c.val then k0_pay39 (offs (part A) c n) (lifted (tot (part A (before (Fin.ofNat 3 n) c)))) else offs (part A) c n) (ix2 0 j) + _ = _
      rw [if_neg h, ← ih, show c.val - (n + 1) = c.val - n by omega]

/-- A device's result at a row of its block is the whole array's running sum at that row. -/
theorem outAll_apply (A : FVec Ideal ⟨2, ![8192, 1024]⟩ .f32) (c : Dev nD) (i : Fin 2048) (j : Fin 1024) :
    outAll (part A) c (ix2 i j) = ∑ k ∈ Finset.range (2048 * c.val + (i.val + 1)), col (R := 8192) A j k := by
  have hi := i.isLt
  have hw : within (ix2 i j) = ix2 (⟨i.val % 128, Nat.mod_lt _ (by decide)⟩ : Fin 128) j := by
    funext a
    match a with
    | ⟨0, _⟩ => rfl
    | ⟨1, _⟩ => rfl
  have hn : 128 * (chunkOf (ix2 i j)).val + (i.val % 128 + 1) = i.val + 1 := by
    show 128 * (i.val / 128) + (i.val % 128 + 1) = i.val + 1
    omega
  have ho := offs_apply A c j 3 le_rfl
  have hc : c.val < 4 := c.isLt
  rw [show 2048 * (c.val - 3) = 0 by omega, Finset.range_zero, Finset.sum_empty, add_zero] at ho
  show k0_pay42 (offs (part A) c 3) (loc (part A c) (chunkOf (ix2 i j))) (within (ix2 i j)) = _
  rw [hw, fin_apply, loc_apply, ho, part_sum A c j (i.val + 1) (by omega), add_comm, hn]

end Cert.KernelIdeal.Scan
end
-- ==== Proof.KernelIdeal.Agree.lean ====
/-
# The devices' results are the blocks of the reference's result

The runs end in the devices' results from the blocks they hold; at blocks of one array these are the blocks
of the array's running sum.
-/
module

public import proofs.«01_k».proof.Proof.KernelIdeal.Launch
public import proofs.«01_k».proof.Proof.KernelIdeal.Value

@[expose] public section

noncomputable section

namespace Cert.KernelIdeal.Scan

open Cert.KernelIdeal Cert.KernelIdeal.Gen
open Idealize.ShloMosaic
open Idealize.ShloMosaic.TcCoe

/-- The block a device stages is its whole argument. -/
theorem xs_eq (m : (ℓ : Loc nD τ sig) → Buf (Elt Ideal) ℓ) (c : Dev nD) :
    xs m c = (show Vec Ideal S2048x1024 .f32 from m ((c.tc : Thread nD τ).loc main_arg0)) := by
  funext i
  unfold xs
  show m ((c.tc : Thread nD τ).loc main_arg0) _ = m ((c.tc : Thread nD τ).loc main_arg0) i
  refine congrArg (m ((c.tc : Thread nD τ).loc main_arg0)) ?_
  funext a
  match a with
  | ⟨0, _⟩ => exact Fin.ext (show 0 + 1 * (i 0).val = (i 0).val by omega)
  | ⟨1, _⟩ => exact Fin.ext (show 0 + 1 * (i 1).val = (i 1).val by omega)

/-- An array whose every position is the running sum of `A` there has the devices' results as its blocks. -/
theorem outAll_block (A v : FVec Ideal ⟨2, ![8192, 1024]⟩ .f32)
    (hv : ∀ (i : Fin 8192) (j : Fin 1024), v (ix2 i j) = ∑ k ∈ Finset.range (i.val + 1), RunningSum.col (R := 8192) A j k)
    (c : Dev nD) : outAll (part A) c = Layout.block ⟨2, ![2048, 1024]⟩ ⟨2, ![8192, 1024]⟩ 0 4 c v := by
  funext i
  idx_vars i
  have hc : c.val < 4 := c.isLt
  have hi := i0.isLt
  have he : (Layout.block ⟨2, ![2048, 1024]⟩ ⟨2, ![8192, 1024]⟩ 0 4 c v) (ix2 i0 i1)
      = v (ix2 (⟨2048 * c.val + i0.val, by omega⟩ : Fin 8192) i1) := by
    show v _ = v _
    refine congrArg v ?_
    funext a
    match a with
    | ⟨0, _⟩ => exact Fin.ext (show c.val * 2048 + i0.val = 2048 * c.val + i0.val by omega)
    | ⟨1, _⟩ => rfl
  rw [he, hv, outAll_apply]
  rfl

end Cert.KernelIdeal.Scan
end
-- ==== Proof.lean ====
/-
# The proof of the certificate's claim

Every run of the kernel on the four devices ends with the result the devices' blocks give, the argument unchanged and
every counter at zero; the reference's run ends in the running sum of the whole array; the two agree.
-/
module

public import proofs.«01_k».proof.Defs
public import proofs.«01_k».proof.Proof.Kernel.Launch
public import proofs.«01_k».proof.Proof.KernelIdeal.Launch
public import proofs.«01_k».proof.Proof.KernelIdeal.Agree
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's own run. -/
theorem kernel_frame : Cert.quiescent_Kernel := fun m ρ _ =>
  (θ_run _ _ _).mono (fun _ h => ⟨fun c => (h.1 c).2, h.2⟩) (Cert.Kernel.Scan.run_main (F := Bits) m ρ)

/-- The kernel's run over the extended reals. -/
theorem kernelIdeal_frame : Cert.quiescent_KernelIdeal := fun m ρ _ =>
  (θ_run _ _ _).mono (fun _ h => ⟨fun c => (h.1 c).2, h.2⟩) (Cert.KernelIdeal.Scan.run_main (F := Ideal) m ρ)

/-- The reference's run: it declares no semaphore. -/
theorem reference_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The reference's result is, at each position, the sum of the column's rows up to and including it. -/
theorem reference_apply (A : FVec Ideal Cert.ReferenceIdeal.S8192x1024 .f32)
    (h : Cert.ReferenceIdeal.S8192x1024.ReduceWindows ![8192, 1] ![1, 1] ![8191, 0] ![0, 0] Cert.ReferenceIdeal.S8192x1024)
    (hb : Cert.ReferenceIdeal.S_.BroadcastsInDim Cert.ReferenceIdeal.S_ ![]) (hu : 0 < Cert.ReferenceIdeal.S_.numel) (i : Fin 8192) (j : Fin 1024) :
    Host.reduceWindowAdd ![8192, 1] ![1, 1] ![8191, 0] ![0, 0] A
        (broadcastInDim Cert.ReferenceIdeal.S_ ![] hb (constant (F := Ideal) Cert.ReferenceIdeal.S_ .f32 0x00000000#32)) h hu (ix2 i j)
      = ∑ k ∈ Finset.range (i.val + 1), Cert.RunningSum.col (R := 8192) A j k :=
  Cert.RunningSum.window_apply A _ (fun _ => Ideal.ofBits_zero_f32) h hu i j

/-- The devices' results are the blocks of the reference's result, over the extended reals. -/
theorem kernel_reference : Cert.algebraic_KernelIdeal_ReferenceIdeal := fun m g m' g' _ hm =>
  ⟨_, (θ_run _ _ _).mono (fun _ h c => ⟨(h.1 c).1.trans ((congrArg (fun Xs => Cert.KernelIdeal.Scan.outAll Xs c)
        (funext fun d => (Cert.KernelIdeal.Scan.xs_eq m d).trans (hm d))).trans
          (Cert.KernelIdeal.Scan.outAll_block _ _ (reference_apply _ _ _ _) c)), (h.1 c).2⟩)
      (Cert.KernelIdeal.Scan.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  kernel_frame, kernelIdeal_frame, reference_frame, trivial, kernel_reference⟩

end Cert.Proof

end
